-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S7x4x512x256 : Shape := ⟨4, ![7, 4, 512, 256]⟩
abbrev S7x4 : Shape := ⟨2, ![7, 4]⟩
abbrev S_ : Shape := ⟨0, ![]⟩
abbrev S512x512 : Shape := ⟨2, ![512, 512]⟩
abbrev S512x1024 : Shape := ⟨2, ![512, 1024]⟩
abbrev S512x256 : Shape := ⟨2, ![512, 256]⟩
abbrev S1x1x512x256 : Shape := ⟨4, ![1, 1, 512, 256]⟩
abbrev S1x1 : Shape := ⟨2, ![1, 1]⟩

abbrev nBuf : Space → Nat
  | .hbm => 5
  | .vmem => 9
  | .smem => 2
  | _ => 0

abbrev bufTy : (tb : Table) → Fin (tcTables nBuf tb) → BufTy
  | .hbm, ⟨0, _⟩ => ⟨S4096x512, .fp8e4m3⟩
  | .hbm, ⟨1, _⟩ => ⟨S512x2048, .fp8e4m3⟩
  | .hbm, ⟨2, _⟩ => ⟨S1, .f32⟩
  | .hbm, ⟨3, _⟩ => ⟨S1, .f32⟩
  | .hbm, ⟨4, _⟩ => ⟨S512x2048, .f32⟩
  | .local _ .vmem, ⟨0, _⟩ => ⟨S4096x512, .fp8e4m3⟩
  | .local _ .vmem, ⟨1, _⟩ => ⟨S512x2048, .fp8e4m3⟩
  | .local _ .vmem, ⟨2, _⟩ => ⟨S512x2048, .f32⟩
  | .local _ .vmem, ⟨3, _⟩ => ⟨S4096x512, .bf16⟩
  | .local _ .vmem, ⟨4, _⟩ => ⟨S512x2048, .bf16⟩
  | .local _ .vmem, ⟨5, _⟩ => ⟨S7x4x512x256, .bf16⟩
  | .local _ .vmem, ⟨6, _⟩ => ⟨S7x4x512x256, .bf16⟩
  | .local _ .vmem, ⟨7, _⟩ => ⟨S7x4x512x256, .bf16⟩
  | .local _ .vmem, ⟨8, _⟩ => ⟨S7x4x512x256, .bf16⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 1 → Bool
  | ⟨0, _⟩ => false
  | _ => false

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  (ofTc nBuf bufTy 1 117 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch6 : Ref sig .tc := ⟨.vmem, 7, rfl⟩
abbrev cc0_scratch7 : Ref sig .tc := ⟨.vmem, 8, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v16 : BitVec 32 := Scalar.xori v2 c1_i32_7
  let c1_i32_9 : BitVec 32 := 1#32
  let v17 : BitVec 32 := Scalar.muli v16 c1_i32_9
  let v18 : BitVec 32 := Scalar.addi c0_i32 v17
  v18.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v19 : BitVec 32 := Scalar.xori v2 c3_i32
  let c1_i32_11 : BitVec 32 := 1#32
  let v20 : BitVec 32 := Scalar.muli v19 c1_i32_11
  let v21 : BitVec 32 := Scalar.addi c0_i32_12 v20
  v21.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v22 : BitVec 32 := Scalar.xori v2 c4_i32
  let c1_i32_14 : BitVec 32 := 1#32
  let v23 : BitVec 32 := Scalar.muli v22 c1_i32_14
  let v24 : BitVec 32 := Scalar.addi c0_i32_15 v23
  v24.toNat
def k0_off1 (d0 : Dev nD) (c6_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.xori v2 c6_i32
  let c512_i32 : BitVec 32 := 512#32
  let v26 : BitVec 32 := Scalar.muli v25 c512_i32
  let v27 : Index := Scalar.indexCast v26
  let c0_17 : Index := 0#32
  ![v27.toNat, 0]
def k0_dev4 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_24 : BitVec 32 := 4#32
  let v36 : BitVec 32 := Scalar.xori v2 c4_i32_24
  let c1_i32_33 : BitVec 32 := 1#32
  let v37 : BitVec 32 := Scalar.muli v36 c1_i32_33
  let v38 : BitVec 32 := Scalar.addi c0_i32_34 v37
  v38.toNat
def k0_dev5 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_42 : BitVec 32 := 4#32
  let v52 : BitVec 32 := Scalar.xori v2 c4_i32_42
  let c1_i32_51 : BitVec 32 := 1#32
  let v53 : BitVec 32 := Scalar.muli v52 c1_i32_51
  let v54 : BitVec 32 := Scalar.addi c0_i32_52 v53
  v54.toNat
def k0_dev6 (d0 : Dev nD) : Nat :=
  let c0_i32_69 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_60 : BitVec 32 := 4#32
  let v68 : BitVec 32 := Scalar.xori v2 c4_i32_60
  let c1_i32_68 : BitVec 32 := 1#32
  let v69 : BitVec 32 := Scalar.muli v68 c1_i32_68
  let v70 : BitVec 32 := Scalar.addi c0_i32_69 v69
  v70.toNat
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_77 : BitVec 32 := 4#32
  let v84 : BitVec 32 := Scalar.xori v2 c4_i32_77
  let c1_i32_86 : BitVec 32 := 1#32
  let v85 : BitVec 32 := Scalar.muli v84 c1_i32_86
  let v86 : BitVec 32 := Scalar.addi c0_i32_87 v85
  v86.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_101 : BitVec 32 := 1#32
  let v106 : BitVec 32 := Scalar.xori v2 c1_i32_101
  let c1_i32_110 : BitVec 32 := 1#32
  let v107 : BitVec 32 := Scalar.muli v106 c1_i32_110
  let v108 : BitVec 32 := Scalar.addi c0_i32_111 v107
  v108.toNat
def k0_dev9 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_120 : BitVec 32 := 1#32
  let v122 : BitVec 32 := Scalar.xori v2 c1_i32_120
  let c1_i32_129 : BitVec 32 := 1#32
  let v123 : BitVec 32 := Scalar.muli v122 c1_i32_129
  let v124 : BitVec 32 := Scalar.addi c0_i32_130 v123
  v124.toNat
def k0_dev10 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v138 : BitVec 32 := Scalar.xori v2 c1_i32_139
  let c1_i32_148 : BitVec 32 := 1#32
  let v139 : BitVec 32 := Scalar.muli v138 c1_i32_148
  let v140 : BitVec 32 := Scalar.addi c0_i32_149 v139
  v140.toNat
def k0_dev11 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_158 : BitVec 32 := 1#32
  let v154 : BitVec 32 := Scalar.xori v2 c1_i32_158
  let c1_i32_167 : BitVec 32 := 1#32
  let v155 : BitVec 32 := Scalar.muli v154 c1_i32_167
  let v156 : BitVec 32 := Scalar.addi c0_i32_168 v155
  v156.toNat
def k0_dev12 (d0 : Dev nD) : Nat :=
  let c0_i32_192 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_182 : BitVec 32 := 4#32
  let v176 : BitVec 32 := Scalar.xori v2 c4_i32_182
  let c1_i32_191 : BitVec 32 := 1#32
  let v177 : BitVec 32 := Scalar.muli v176 c1_i32_191
  let v178 : BitVec 32 := Scalar.addi c0_i32_192 v177
  v178.toNat
def k0_dev13 (d0 : Dev nD) : Nat :=
  let c0_i32_211 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_201 : BitVec 32 := 4#32
  let v192 : BitVec 32 := Scalar.xori v2 c4_i32_201
  let c1_i32_210 : BitVec 32 := 1#32
  let v193 : BitVec 32 := Scalar.muli v192 c1_i32_210
  let v194 : BitVec 32 := Scalar.addi c0_i32_211 v193
  v194.toNat
def k0_dev14 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_220 : BitVec 32 := 4#32
  let v208 : BitVec 32 := Scalar.xori v2 c4_i32_220
  let c1_i32_229 : BitVec 32 := 1#32
  let v209 : BitVec 32 := Scalar.muli v208 c1_i32_229
  let v210 : BitVec 32 := Scalar.addi c0_i32_230 v209
  v210.toNat
def k0_dev15 (d0 : Dev nD) : Nat :=
  let c0_i32_249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_239 : BitVec 32 := 4#32
  let v224 : BitVec 32 := Scalar.xori v2 c4_i32_239
  let c1_i32_248 : BitVec 32 := 1#32
  let v225 : BitVec 32 := Scalar.muli v224 c1_i32_248
  let v226 : BitVec 32 := Scalar.addi c0_i32_249 v225
  v226.toNat
def k0_dev16 (d0 : Dev nD) : Nat :=
  let c0_i32_274 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_264 : BitVec 32 := 1#32
  let v246 : BitVec 32 := Scalar.xori v2 c1_i32_264
  let c1_i32_273 : BitVec 32 := 1#32
  let v247 : BitVec 32 := Scalar.muli v246 c1_i32_273
  let v248 : BitVec 32 := Scalar.addi c0_i32_274 v247
  v248.toNat
def k0_dev17 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_283 : BitVec 32 := 1#32
  let v262 : BitVec 32 := Scalar.xori v2 c1_i32_283
  let c1_i32_292 : BitVec 32 := 1#32
  let v263 : BitVec 32 := Scalar.muli v262 c1_i32_292
  let v264 : BitVec 32 := Scalar.addi c0_i32_293 v263
  v264.toNat
def k0_dev18 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_302 : BitVec 32 := 1#32
  let v278 : BitVec 32 := Scalar.xori v2 c1_i32_302
  let c1_i32_311 : BitVec 32 := 1#32
  let v279 : BitVec 32 := Scalar.muli v278 c1_i32_311
  let v280 : BitVec 32 := Scalar.addi c0_i32_312 v279
  v280.toNat
def k0_dev19 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_321 : BitVec 32 := 1#32
  let v294 : BitVec 32 := Scalar.xori v2 c1_i32_321
  let c1_i32_330 : BitVec 32 := 1#32
  let v295 : BitVec 32 := Scalar.muli v294 c1_i32_330
  let v296 : BitVec 32 := Scalar.addi c0_i32_331 v295
  v296.toNat
def k0_dev20 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_345 : BitVec 32 := 4#32
  let v316 : BitVec 32 := Scalar.xori v2 c4_i32_345
  let c1_i32_354 : BitVec 32 := 1#32
  let v317 : BitVec 32 := Scalar.muli v316 c1_i32_354
  let v318 : BitVec 32 := Scalar.addi c0_i32_355 v317
  v318.toNat
def k0_dev21 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_364 : BitVec 32 := 4#32
  let v332 : BitVec 32 := Scalar.xori v2 c4_i32_364
  let c1_i32_373 : BitVec 32 := 1#32
  let v333 : BitVec 32 := Scalar.muli v332 c1_i32_373
  let v334 : BitVec 32 := Scalar.addi c0_i32_374 v333
  v334.toNat
def k0_dev22 (d0 : Dev nD) : Nat :=
  let c0_i32_393 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_383 : BitVec 32 := 4#32
  let v348 : BitVec 32 := Scalar.xori v2 c4_i32_383
  let c1_i32_392 : BitVec 32 := 1#32
  let v349 : BitVec 32 := Scalar.muli v348 c1_i32_392
  let v350 : BitVec 32 := Scalar.addi c0_i32_393 v349
  v350.toNat
def k0_dev23 (d0 : Dev nD) : Nat :=
  let c0_i32_412 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_402 : BitVec 32 := 4#32
  let v364 : BitVec 32 := Scalar.xori v2 c4_i32_402
  let c1_i32_411 : BitVec 32 := 1#32
  let v365 : BitVec 32 := Scalar.muli v364 c1_i32_411
  let v366 : BitVec 32 := Scalar.addi c0_i32_412 v365
  v366.toNat
def k0_dev24 (d0 : Dev nD) : Nat :=
  let c0_i32_437 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_427 : BitVec 32 := 1#32
  let v386 : BitVec 32 := Scalar.xori v2 c1_i32_427
  let c1_i32_436 : BitVec 32 := 1#32
  let v387 : BitVec 32 := Scalar.muli v386 c1_i32_436
  let v388 : BitVec 32 := Scalar.addi c0_i32_437 v387
  v388.toNat
def k0_dev25 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_446 : BitVec 32 := 1#32
  let v402 : BitVec 32 := Scalar.xori v2 c1_i32_446
  let c1_i32_455 : BitVec 32 := 1#32
  let v403 : BitVec 32 := Scalar.muli v402 c1_i32_455
  let v404 : BitVec 32 := Scalar.addi c0_i32_456 v403
  v404.toNat
def k0_dev26 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_465 : BitVec 32 := 1#32
  let v418 : BitVec 32 := Scalar.xori v2 c1_i32_465
  let c1_i32_474 : BitVec 32 := 1#32
  let v419 : BitVec 32 := Scalar.muli v418 c1_i32_474
  let v420 : BitVec 32 := Scalar.addi c0_i32_475 v419
  v420.toNat
def k0_dev27 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_484 : BitVec 32 := 1#32
  let v434 : BitVec 32 := Scalar.xori v2 c1_i32_484
  let c1_i32_493 : BitVec 32 := 1#32
  let v435 : BitVec 32 := Scalar.muli v434 c1_i32_493
  let v436 : BitVec 32 := Scalar.addi c0_i32_494 v435
  v436.toNat
def k0_dev28 (d0 : Dev nD) : Nat :=
  let c0_i32_519 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_509 : BitVec 32 := 4#32
  let v456 : BitVec 32 := Scalar.xori v2 c4_i32_509
  let c1_i32_518 : BitVec 32 := 1#32
  let v457 : BitVec 32 := Scalar.muli v456 c1_i32_518
  let v458 : BitVec 32 := Scalar.addi c0_i32_519 v457
  v458.toNat
def k0_dev29 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_528 : BitVec 32 := 4#32
  let v472 : BitVec 32 := Scalar.xori v2 c4_i32_528
  let c1_i32_537 : BitVec 32 := 1#32
  let v473 : BitVec 32 := Scalar.muli v472 c1_i32_537
  let v474 : BitVec 32 := Scalar.addi c0_i32_538 v473
  v474.toNat
def k0_dev30 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_547 : BitVec 32 := 4#32
  let v488 : BitVec 32 := Scalar.xori v2 c4_i32_547
  let c1_i32_556 : BitVec 32 := 1#32
  let v489 : BitVec 32 := Scalar.muli v488 c1_i32_556
  let v490 : BitVec 32 := Scalar.addi c0_i32_557 v489
  v490.toNat
def k0_dev31 (d0 : Dev nD) : Nat :=
  let c0_i32_576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_566 : BitVec 32 := 4#32
  let v504 : BitVec 32 := Scalar.xori v2 c4_i32_566
  let c1_i32_575 : BitVec 32 := 1#32
  let v505 : BitVec 32 := Scalar.muli v504 c1_i32_575
  let v506 : BitVec 32 := Scalar.addi c0_i32_576 v505
  v506.toNat
def k0_dev32 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_591 : BitVec 32 := 1#32
  let v526 : BitVec 32 := Scalar.xori v2 c1_i32_591
  let c1_i32_600 : BitVec 32 := 1#32
  let v527 : BitVec 32 := Scalar.muli v526 c1_i32_600
  let v528 : BitVec 32 := Scalar.addi c0_i32_601 v527
  v528.toNat
def k0_dev33 (d0 : Dev nD) : Nat :=
  let c0_i32_620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_610 : BitVec 32 := 1#32
  let v542 : BitVec 32 := Scalar.xori v2 c1_i32_610
  let c1_i32_619 : BitVec 32 := 1#32
  let v543 : BitVec 32 := Scalar.muli v542 c1_i32_619
  let v544 : BitVec 32 := Scalar.addi c0_i32_620 v543
  v544.toNat
def k0_dev34 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_629 : BitVec 32 := 1#32
  let v558 : BitVec 32 := Scalar.xori v2 c1_i32_629
  let c1_i32_638 : BitVec 32 := 1#32
  let v559 : BitVec 32 := Scalar.muli v558 c1_i32_638
  let v560 : BitVec 32 := Scalar.addi c0_i32_639 v559
  v560.toNat
def k0_dev35 (d0 : Dev nD) : Nat :=
  let c0_i32_658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_648 : BitVec 32 := 1#32
  let v574 : BitVec 32 := Scalar.xori v2 c1_i32_648
  let c1_i32_657 : BitVec 32 := 1#32
  let v575 : BitVec 32 := Scalar.muli v574 c1_i32_657
  let v576 : BitVec 32 := Scalar.addi c0_i32_658 v575
  v576.toNat
def k0_dev36 (d0 : Dev nD) : Nat :=
  let c0_i32_714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_704 : BitVec 32 := 3#32
  let v615 : BitVec 32 := Scalar.xori v2 c3_i32_704
  let c1_i32_713 : BitVec 32 := 1#32
  let v616 : BitVec 32 := Scalar.muli v615 c1_i32_713
  let v617 : BitVec 32 := Scalar.addi c0_i32_714 v616
  v617.toNat
def k0_dev37 (d0 : Dev nD) : Nat :=
  let c0_i32_765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_755 : BitVec 32 := 3#32
  let v650 : BitVec 32 := Scalar.xori v2 c3_i32_755
  let c1_i32_764 : BitVec 32 := 1#32
  let v651 : BitVec 32 := Scalar.muli v650 c1_i32_764
  let v652 : BitVec 32 := Scalar.addi c0_i32_765 v651
  v652.toNat
def k0_dev38 (d0 : Dev nD) : Nat :=
  let c0_i32_816 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_806 : BitVec 32 := 3#32
  let v685 : BitVec 32 := Scalar.xori v2 c3_i32_806
  let c1_i32_815 : BitVec 32 := 1#32
  let v686 : BitVec 32 := Scalar.muli v685 c1_i32_815
  let v687 : BitVec 32 := Scalar.addi c0_i32_816 v686
  v687.toNat
def k0_dev39 (d0 : Dev nD) : Nat :=
  let c0_i32_867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_857 : BitVec 32 := 3#32
  let v720 : BitVec 32 := Scalar.xori v2 c3_i32_857
  let c1_i32_866 : BitVec 32 := 1#32
  let v721 : BitVec 32 := Scalar.muli v720 c1_i32_866
  let v722 : BitVec 32 := Scalar.addi c0_i32_867 v721
  v722.toNat
def k0_dev40 (d0 : Dev nD) : Nat :=
  let c0_i32_924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_914 : BitVec 32 := 3#32
  let v761 : BitVec 32 := Scalar.xori v2 c3_i32_914
  let c1_i32_923 : BitVec 32 := 1#32
  let v762 : BitVec 32 := Scalar.muli v761 c1_i32_923
  let v763 : BitVec 32 := Scalar.addi c0_i32_924 v762
  v763.toNat
def k0_dev41 (d0 : Dev nD) : Nat :=
  let c0_i32_975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_965 : BitVec 32 := 3#32
  let v796 : BitVec 32 := Scalar.xori v2 c3_i32_965
  let c1_i32_974 : BitVec 32 := 1#32
  let v797 : BitVec 32 := Scalar.muli v796 c1_i32_974
  let v798 : BitVec 32 := Scalar.addi c0_i32_975 v797
  v798.toNat
def k0_dev42 (d0 : Dev nD) : Nat :=
  let c0_i32_1026 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1016 : BitVec 32 := 3#32
  let v831 : BitVec 32 := Scalar.xori v2 c3_i32_1016
  let c1_i32_1025 : BitVec 32 := 1#32
  let v832 : BitVec 32 := Scalar.muli v831 c1_i32_1025
  let v833 : BitVec 32 := Scalar.addi c0_i32_1026 v832
  v833.toNat
def k0_dev43 (d0 : Dev nD) : Nat :=
  let c0_i32_1077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1067 : BitVec 32 := 3#32
  let v866 : BitVec 32 := Scalar.xori v2 c3_i32_1067
  let c1_i32_1076 : BitVec 32 := 1#32
  let v867 : BitVec 32 := Scalar.muli v866 c1_i32_1076
  let v868 : BitVec 32 := Scalar.addi c0_i32_1077 v867
  v868.toNat
def k0_dev44 (d0 : Dev nD) : Nat :=
  let c0_i32_1133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1123 : BitVec 32 := 3#32
  let v907 : BitVec 32 := Scalar.xori v2 c3_i32_1123
  let c1_i32_1132 : BitVec 32 := 1#32
  let v908 : BitVec 32 := Scalar.muli v907 c1_i32_1132
  let v909 : BitVec 32 := Scalar.addi c0_i32_1133 v908
  v909.toNat
def k0_dev45 (d0 : Dev nD) : Nat :=
  let c0_i32_1184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1174 : BitVec 32 := 3#32
  let v942 : BitVec 32 := Scalar.xori v2 c3_i32_1174
  let c1_i32_1183 : BitVec 32 := 1#32
  let v943 : BitVec 32 := Scalar.muli v942 c1_i32_1183
  let v944 : BitVec 32 := Scalar.addi c0_i32_1184 v943
  v944.toNat
def k0_dev46 (d0 : Dev nD) : Nat :=
  let c0_i32_1235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1225 : BitVec 32 := 3#32
  let v977 : BitVec 32 := Scalar.xori v2 c3_i32_1225
  let c1_i32_1234 : BitVec 32 := 1#32
  let v978 : BitVec 32 := Scalar.muli v977 c1_i32_1234
  let v979 : BitVec 32 := Scalar.addi c0_i32_1235 v978
  v979.toNat
def k0_dev47 (d0 : Dev nD) : Nat :=
  let c0_i32_1286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1276 : BitVec 32 := 3#32
  let v1012 : BitVec 32 := Scalar.xori v2 c3_i32_1276
  let c1_i32_1285 : BitVec 32 := 1#32
  let v1013 : BitVec 32 := Scalar.muli v1012 c1_i32_1285
  let v1014 : BitVec 32 := Scalar.addi c0_i32_1286 v1013
  v1014.toNat
def k0_dev48 (d0 : Dev nD) : Nat :=
  let c0_i32_1343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1333 : BitVec 32 := 3#32
  let v1053 : BitVec 32 := Scalar.xori v2 c3_i32_1333
  let c1_i32_1342 : BitVec 32 := 1#32
  let v1054 : BitVec 32 := Scalar.muli v1053 c1_i32_1342
  let v1055 : BitVec 32 := Scalar.addi c0_i32_1343 v1054
  v1055.toNat
def k0_dev49 (d0 : Dev nD) : Nat :=
  let c0_i32_1394 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1384 : BitVec 32 := 3#32
  let v1088 : BitVec 32 := Scalar.xori v2 c3_i32_1384
  let c1_i32_1393 : BitVec 32 := 1#32
  let v1089 : BitVec 32 := Scalar.muli v1088 c1_i32_1393
  let v1090 : BitVec 32 := Scalar.addi c0_i32_1394 v1089
  v1090.toNat
def k0_dev50 (d0 : Dev nD) : Nat :=
  let c0_i32_1445 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1435 : BitVec 32 := 3#32
  let v1123 : BitVec 32 := Scalar.xori v2 c3_i32_1435
  let c1_i32_1444 : BitVec 32 := 1#32
  let v1124 : BitVec 32 := Scalar.muli v1123 c1_i32_1444
  let v1125 : BitVec 32 := Scalar.addi c0_i32_1445 v1124
  v1125.toNat
def k0_dev51 (d0 : Dev nD) : Nat :=
  let c0_i32_1496 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1486 : BitVec 32 := 3#32
  let v1158 : BitVec 32 := Scalar.xori v2 c3_i32_1486
  let c1_i32_1495 : BitVec 32 := 1#32
  let v1159 : BitVec 32 := Scalar.muli v1158 c1_i32_1495
  let v1160 : BitVec 32 := Scalar.addi c0_i32_1496 v1159
  v1160.toNat
def k0_dev52 (d0 : Dev nD) : Nat :=
  let c0_i32_1584 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1574 : BitVec 32 := 1#32
  let v1218 : BitVec 32 := Scalar.xori v2 c1_i32_1574
  let c1_i32_1583 : BitVec 32 := 1#32
  let v1219 : BitVec 32 := Scalar.muli v1218 c1_i32_1583
  let v1220 : BitVec 32 := Scalar.addi c0_i32_1584 v1219
  v1220.toNat
def k0_dev53 (d0 : Dev nD) : Nat :=
  let c0_i32_1667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1657 : BitVec 32 := 1#32
  let v1272 : BitVec 32 := Scalar.xori v2 c1_i32_1657
  let c1_i32_1666 : BitVec 32 := 1#32
  let v1273 : BitVec 32 := Scalar.muli v1272 c1_i32_1666
  let v1274 : BitVec 32 := Scalar.addi c0_i32_1667 v1273
  v1274.toNat
def k0_dev54 (d0 : Dev nD) : Nat :=
  let c0_i32_1750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1740 : BitVec 32 := 1#32
  let v1326 : BitVec 32 := Scalar.xori v2 c1_i32_1740
  let c1_i32_1749 : BitVec 32 := 1#32
  let v1327 : BitVec 32 := Scalar.muli v1326 c1_i32_1749
  let v1328 : BitVec 32 := Scalar.addi c0_i32_1750 v1327
  v1328.toNat
def k0_dev55 (d0 : Dev nD) : Nat :=
  let c0_i32_1833 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1823 : BitVec 32 := 1#32
  let v1380 : BitVec 32 := Scalar.xori v2 c1_i32_1823
  let c1_i32_1832 : BitVec 32 := 1#32
  let v1381 : BitVec 32 := Scalar.muli v1380 c1_i32_1832
  let v1382 : BitVec 32 := Scalar.addi c0_i32_1833 v1381
  v1382.toNat
def k0_dev56 (d0 : Dev nD) : Nat :=
  let c0_i32_1922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1912 : BitVec 32 := 4#32
  let v1440 : BitVec 32 := Scalar.xori v2 c4_i32_1912
  let c1_i32_1921 : BitVec 32 := 1#32
  let v1441 : BitVec 32 := Scalar.muli v1440 c1_i32_1921
  let v1442 : BitVec 32 := Scalar.addi c0_i32_1922 v1441
  v1442.toNat
def k0_dev57 (d0 : Dev nD) : Nat :=
  let c0_i32_2005 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1995 : BitVec 32 := 4#32
  let v1494 : BitVec 32 := Scalar.xori v2 c4_i32_1995
  let c1_i32_2004 : BitVec 32 := 1#32
  let v1495 : BitVec 32 := Scalar.muli v1494 c1_i32_2004
  let v1496 : BitVec 32 := Scalar.addi c0_i32_2005 v1495
  v1496.toNat
def k0_dev58 (d0 : Dev nD) : Nat :=
  let c0_i32_2088 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2078 : BitVec 32 := 4#32
  let v1548 : BitVec 32 := Scalar.xori v2 c4_i32_2078
  let c1_i32_2087 : BitVec 32 := 1#32
  let v1549 : BitVec 32 := Scalar.muli v1548 c1_i32_2087
  let v1550 : BitVec 32 := Scalar.addi c0_i32_2088 v1549
  v1550.toNat
def k0_dev59 (d0 : Dev nD) : Nat :=
  let c0_i32_2171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_2161 : BitVec 32 := 4#32
  let v1602 : BitVec 32 := Scalar.xori v2 c4_i32_2161
  let c1_i32_2170 : BitVec 32 := 1#32
  let v1603 : BitVec 32 := Scalar.muli v1602 c1_i32_2170
  let v1604 : BitVec 32 := Scalar.addi c0_i32_2171 v1603
  v1604.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_2178 : BitVec 32 := 512#32
  let v1616 : BitVec 32 := Scalar.muli v2 c512_i32_2178
  let v1617 : Index := Scalar.indexCast v1616
  let c0_2179 : Index := 0#32
  ![v1617.toNat, 0]
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S1, .f32⟩
  | .local _ .vmem, ⟨3, _⟩ => ⟨S1, .f32⟩
  | .local _ .vmem, ⟨4, _⟩ => ⟨S4096x2048, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.K.Body.lean ====
/-
# The kernel's body as a program of blocks

The printed body is one straight line of some four hundred operations. Here it is written as a sequence of
sixteen blocks over the stream `t` (`false`: the left half of the columns, `true`: the right half), the slot
`k` of the exchange buffers and the quarter `s` of the stream's columns, and proved equal to the printed one.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.Tactic

@[expose] public section

set_option backward.proofsInPublic true

noncomputable section

namespace Cert.Exchange

open Cert.KernelIdeal Cert.KernelIdeal.Gen

open Idealize.ShloMosaic
open Idealize.ShloMosaic.TcCoe
open Idealize.SL.Sem

variable {F : FTy → Type} [FloatOps F]

/-- One of two things, by the stream. -/
def pick {α : Type*} (a b : α) : Bool → α
  | false => a
  | true => b

/-! ## Slots of the exchange buffers -/

theorem slot_inb : ∀ (k : Fin 7) (s : Fin 4), ∀ a, (![k.val, s.val, 0, 0] : Fin 4 → Nat) a + S1x1x512x256.size a ≤ S7x4x512x256.size a := by decide
theorem sem_inb : ∀ (k : Fin 7) (s : Fin 4), ∀ a, (![k.val, s.val] : Fin 2 → Nat) a + S1x1.size a ≤ S7x4.size a := by decide

/-- The rectangle of slot `k`, quarter `s`, of an exchange buffer. -/
abbrev slotR (k : Fin 7) (s : Fin 4) : Rect S7x4x512x256 :=
  Rect.unit (s := S7x4x512x256) ![k.val, s.val, 0, 0] S1x1x512x256.size (slot_inb k s)

theorem slot_packed : ∀ (k : Fin 7) (s : Fin 4), (slotR k s).PackedRows (EltTy.packing .bf16) := by decide
theorem slot_words : ∀ (k : Fin 7) (s : Fin 4), (slotR k s).WholeWords (EltTy.packing .bf16) := by decide

/-- Slot `k`, quarter `s`, of the exchange buffer `b` as a buffer of its own. -/
abbrev slotM (b : Memref sig .tc .vmem S7x4x512x256 .bf16) (k : Fin 7) (s : Fin 4) : Memref sig .tc .vmem S512x256 .bf16 :=
  (b.slice (slotR k s) (fun _ => rfl)).squeeze S512x256 squeezes_S1x1x512x256_S512x256

/-- The semaphore of slot `k`, quarter `s`, in the array `a`. -/
abbrev slotS (a : DmaSems sig S7x4) (k : Fin 7) (s : Fin 4) : DmaSem sig :=
  ((a.slice (Rect.unit (s := S7x4) ![k.val, s.val] S1x1.size (sem_inb k s))).squeeze S_ squeezes_S1x1_S_).sem

/-! ## Which rows each send needs -/

/-- Which device's rows stream `t` computes for slot `k`: its own device number with these bits changed. -/
def rowsOf (t : Bool) (k : Fin 7) : Fin 8 :=
  pick (![6, 7, 5, 4, 2, 3, 1] k) (![6, 2, 5, 1, 7, 3, 4] k) t

theorem col_inb : ∀ t : Bool, ∀ a, (![0, pick 0 1024 t] : Fin 2 → Nat) a + S512x1024.size a ≤ S512x2048.size a := by decide
theorem quarter_slices : ∀ s : Fin 4, S512x1024.Slices ![0, 256 * s.val] S512x256 := by decide
theorem out_inb : ∀ (t : Bool) (s : Fin 4), ∀ a, (![0, pick 0 1024 t + 256 * s.val] : Fin 2 → Nat) a + S512x256.size a ≤ S512x2048.size a := by decide

/-! ## The values written -/

/-- The product of the rows `v` with the stream's columns `w`. -/
def prod (v : FVec F S512x512 .bf16) (w : FVec F S512x1024 .bf16) : FVec F S512x1024 .f32 :=
  matmul dot_S512x512_S512x1024_S512x1024_1_0_0_1_n_n none v w (constant S512x1024 .f32 0x00000000#32)

/-- Quarter `s` of the columns of `p`. -/
def quarter (s : Fin 4) (p : FVec F S512x1024 .f32) : FVec F S512x256 .f32 :=
  extractStridedSlice S512x256 ![0, 256 * s.val] p (quarter_slices s)

/-- A received block, widened. -/
def widen (r : Vec F S1x1x512x256 .bf16) : FVec F S512x256 .f32 :=
  extf .f32 (shapeCast S512x256 r shapeCasts_S1x1x512x256_S512x256) bitsLt_bf16_f32

/-- A block, narrowed to be sent. -/
def narrow (v : FVec F S512x256 .f32) : FVec F S1x1x512x256 .bf16 :=
  shapeCast S1x1x512x256 (truncf .bf16 v bitsLt_bf16_f32) shapeCasts_S512x256_S1x1x512x256

/-- What is sent in the first round: the product's quarter. -/
def payA (s : Fin 4) (p : FVec F S512x1024 .f32) : FVec F S1x1x512x256 .bf16 := narrow (quarter s p)
/-- In the second round: a received block added to the product's quarter. -/
def payB (s : Fin 4) (r : Vec F S1x1x512x256 .bf16) (p : FVec F S512x1024 .f32) : FVec F S1x1x512x256 .bf16 :=
  narrow (addf (widen r) (quarter s p))
/-- In the third round: two received blocks added to the product's quarter. -/
def payC (s : Fin 4) (r r' : Vec F S1x1x512x256 .bf16) (p : FVec F S512x1024 .f32) : FVec F S1x1x512x256 .bf16 :=
  narrow (addf (addf (widen r) (widen r')) (quarter s p))
/-- The result: three received blocks added to the product's quarter, scaled. -/
def payD (s : Fin 4) (z : F .f32) (r r' r'' : Vec F S1x1x512x256 .bf16) (p : FVec F S512x1024 .f32) : FVec F S512x256 .f32 :=
  mulf (addf (addf (addf (widen r) (widen r')) (widen r'')) (quarter s p)) (broadcast S512x256 z)

/-! ## The program -/

abbrev PP (F : FTy → Type) : Type 1 := Prog (TpuEff nD τ sig (Elt F) Λ₀ .tc) PUnit

section Program

variable (x : Memref sig .tc .vmem S4096x512 .fp8e4m3) (w : Memref sig .tc .vmem S512x2048 .fp8e4m3)
  (sx sw : Memref sig .tc .smem S1 .f32) (o : Memref sig .tc .vmem S512x2048 .f32)
  (xb : Memref sig .tc .vmem S4096x512 .bf16) (hxb : xb.IsWhole) (wb : Memref sig .tc .vmem S512x2048 .bf16) (hwb : wb.IsWhole)
  (sb rb : Bool → Memref sig .tc .vmem S7x4x512x256 .bf16) (hsb : ∀ t, (sb t).IsWhole) (hrb : ∀ t, (rb t).IsWhole)
  (ss rs : Bool → DmaSems sig S7x4)
  (off : Fin 8 → Fin 2 → Nat) (hoff : ∀ e a, off e a + S512x512.size a ≤ S4096x512.size a)
  (nb : Bool → Fin 7 → Dev nD)

/-- A step for each quarter in turn. -/
def quarters (f : Fin 4 → PP F → PP F) (rest : PP F) : PP F := f 0 (f 1 (f 2 (f 3 rest)))

/-- Read device `e`'s rows and the stream's columns, and go on with their product. -/
def product (t : Bool) (e : Fin 8) (go : FVec F S512x1024 .f32 → PP F) : PP F :=
  .op (.load xb (Rect.unit (s := S4096x512) (off e) S512x512.size (hoff e)).toLoadRect (View.loadsAt_vmem h_S512x512)) fun (v : Vec F S512x512 .bf16) =>
  .op (.load wb (Rect.unit (s := S512x2048) ![0, pick 0 1024 t] S512x1024.size (col_inb t)).toLoadRect (View.loadsAt_vmem h_S512x1024)) fun (w : Vec F S512x1024 .bf16) =>
  go (prod v w)

/-- Write `v` into the send slot and start its transfer. -/
def send (t : Bool) (k : Fin 7) (s : Fin 4) (v : FVec F S1x1x512x256 .bf16) (rest : PP F) : PP F :=
  .op (.load (sb t) (slotR k s).toLoadRect (View.loadsAt_vmem h_S1x1x512x256)) fun _ =>
  .op (.store (sb t) (slotR k s) v Finset.univ
    (View.stores_vmem h_S1x1x512x256 ((hsb t).storeExact_slice rfl _ (slot_packed k s)) (fun _ => rfl)) (.inl rfl)) fun _ =>
  .op (.enqueueDma (slotM (sb t) k s) (.remote (Dev.tc (nb t k)) (slotM (rb t) k s) (.dma (slotS (ss t) k s))) (.dma (slotS (rs t) k s))
    (((hsb t).wordExact_slice rfl _ (slot_words k s)).reshape _ _) (((hrb t).wordExact_slice rfl _ (slot_words k s)).reshape _ _)
    ⟨⟨rfl, Or.inl rfl⟩, trivial⟩) fun _ => rest

/-- Wait for a slot's transfer: that this device's has left, then that the partner's has landed. -/
def wait (t : Bool) (k : Fin 7) (s : Fin 4) (rest : PP F) : PP F :=
  .op (.waitDma2 (slotS (ss t) k s) (slotM (rb t) k s) (slotM (sb t) k s)
    (((hrb t).wordExact_slice rfl _ (slot_words k s)).reshape _ _) (((hsb t).wordExact_slice rfl _ (slot_words k s)).reshape _ _)) fun _ =>
  .op (.waitDma2 (slotS (rs t) k s) (slotM (sb t) k s) (slotM (rb t) k s)
    (((hsb t).wordExact_slice rfl _ (slot_words k s)).reshape _ _) (((hrb t).wordExact_slice rfl _ (slot_words k s)).reshape _ _)) fun _ => rest

/-- Read a receive slot. -/
def recv (t : Bool) (k : Fin 7) (s : Fin 4) (go : Vec F S1x1x512x256 .bf16 → PP F) : PP F :=
  .op (.load (rb t) (slotR k s).toLoadRect (View.loadsAt_vmem h_S1x1x512x256)) go

/-- A block of the first round. -/
def blockA (t : Bool) (k : Fin 7) (rest : PP F) : PP F :=
  product xb wb off hoff t (rowsOf t k) fun p => quarters (fun s => send sb rb hsb hrb ss rs nb t k s (payA s p)) rest

/-- A block of the second round: slot `k` from what slot `j` brought. -/
def blockB (t : Bool) (j k : Fin 7) (rest : PP F) : PP F :=
  product xb wb off hoff t (rowsOf t k) fun p => quarters (fun s rest => wait sb rb hsb hrb ss rs t j s
    (recv rb t j s fun r => send sb rb hsb hrb ss rs nb t k s (payB s r p) rest)) rest

/-- A block of the third round: slot 6 from what slots 2 and 4 brought. -/
def blockC (t : Bool) (rest : PP F) : PP F :=
  product xb wb off hoff t (rowsOf t 6) fun p => quarters (fun s rest => wait sb rb hsb hrb ss rs t 2 s (wait sb rb hsb hrb ss rs t 4 s
    (recv rb t 2 s fun r => recv rb t 4 s fun r' => send sb rb hsb hrb ss rs nb t 6 s (payC s r r' p) rest))) rest

/-- A block of the result: from what slots 3, 5 and 6 brought. -/
def blockD (z : F .f32) (t : Bool) (rest : PP F) : PP F :=
  product xb wb off hoff t 0 fun p => quarters (fun s rest => wait sb rb hsb hrb ss rs t 3 s (wait sb rb hsb hrb ss rs t 5 s
    (wait sb rb hsb hrb ss rs t 6 s (recv rb t 3 s fun r => recv rb t 5 s fun r' => recv rb t 6 s fun r'' =>
      .op (.load o (Rect.unit (s := S512x2048) ![0, pick 0 1024 t + 256 * s.val] S512x256.size (out_inb t s)).toLoadRect (View.loadsAt_vmem h_S512x256)) fun _ =>
      .op (.store o (Rect.unit (s := S512x2048) ![0, pick 0 1024 t + 256 * s.val] S512x256.size (out_inb t s)) (payD s z r r' r'' p) Finset.univ
        (View.stores_vmem_bits_univ h_S512x256 rfl) (.inl rfl)) fun _ => rest)))) rest

/-- The last part: the scale, then the result's two halves. -/
def tailD : PP F :=
  smemLoad sx (Rect.unit (s := S1) ![0] S1.size inb_S1_S1_0) numel1_S1 rfl >>= fun a =>
  smemLoad sw (Rect.unit (s := S1) ![0] S1.size inb_S1_S1_0) numel1_S1 rfl >>= fun b =>
  blockD o xb wb sb rb hsb hrb ss rs off hoff (Scalar.mulf a b) false <|
  blockD o xb wb sb rb hsb hrb ss rs off hoff (Scalar.mulf a b) true <| .ret ⟨⟩

/-- The exchange: the three rounds, then the result. -/
def rounds : PP F :=
  blockA xb wb sb rb hsb hrb ss rs off hoff nb false 0 <| blockA xb wb sb rb hsb hrb ss rs off hoff nb true 0 <|
  blockA xb wb sb rb hsb hrb ss rs off hoff nb false 1 <| blockA xb wb sb rb hsb hrb ss rs off hoff nb true 1 <|
  blockA xb wb sb rb hsb hrb ss rs off hoff nb false 2 <| blockA xb wb sb rb hsb hrb ss rs off hoff nb true 2 <|
  blockA xb wb sb rb hsb hrb ss rs off hoff nb false 3 <| blockA xb wb sb rb hsb hrb ss rs off hoff nb true 3 <|
  blockB xb wb sb rb hsb hrb ss rs off hoff nb false 0 4 <| blockB xb wb sb rb hsb hrb ss rs off hoff nb true 0 4 <|
  blockB xb wb sb rb hsb hrb ss rs off hoff nb false 1 5 <| blockB xb wb sb rb hsb hrb ss rs off hoff nb true 1 5 <|
  blockC xb wb sb rb hsb hrb ss rs off hoff nb false <| blockC xb wb sb rb hsb hrb ss rs off hoff nb true <|
  tailD sx sw o xb wb sb rb hsb hrb ss rs off hoff

/-- The casts into the scratch buffers, and the handshake with the three partners `a`, `b`, `d`. -/
def opening (a b d : Dev nD) (rest : PP F) : PP F :=
  .op (.load x (Rect.unit (s := S4096x512) ![0, 0] S4096x512.size inb_S4096x512_S4096x512_0_0).toLoadRect (View.loadsAt_vmem h_S4096x512)) fun v =>
  .op (.load xb (Rect.unit (s := S4096x512) ![0, 0] S4096x512.size inb_S4096x512_S4096x512_0_0).toLoadRect (View.loadsAt_vmem h_S4096x512)) fun _ =>
  .op (.store xb (Rect.unit (s := S4096x512) ![0, 0] S4096x512.size inb_S4096x512_S4096x512_0_0) (k0_pay2 v) Finset.univ
    (View.stores_vmem h_S4096x512 (hxb.storeExact_slice rfl _ packedbf16_S4096x512_S4096x512_0_0) (fun _ => rfl)) (.inl rfl)) fun _ =>
  .op (.load w (Rect.unit (s := S512x2048) ![0, 0] S512x2048.size inb_S512x2048_S512x2048_0_0).toLoadRect (View.loadsAt_vmem h_S512x2048)) fun v =>
  .op (.load wb (Rect.unit (s := S512x2048) ![0, 0] S512x2048.size inb_S512x2048_S512x2048_0_0).toLoadRect (View.loadsAt_vmem h_S512x2048)) fun _ =>
  .op (.store wb (Rect.unit (s := S512x2048) ![0, 0] S512x2048.size inb_S512x2048_S512x2048_0_0) (k0_pay3 v) Finset.univ
    (View.stores_vmem h_S512x2048 (hwb.storeExact_slice rfl _ packedbf16_S512x2048_S512x2048_0_0) (fun _ => rfl)) (.inl rfl)) fun _ =>
  semSignalWord a (SemArray.scalar (sig.barrier 0 rfl) : Sems sig S_).sem 1#32 >>= fun _ =>
  semSignalWord b (SemArray.scalar (sig.barrier 0 rfl) : Sems sig S_).sem 1#32 >>= fun _ =>
  semSignalWord d (SemArray.scalar (sig.barrier 0 rfl) : Sems sig S_).sem 1#32 >>= fun _ =>
  semWaitWord (SemArray.scalar (sig.barrier 0 rfl) : Sems sig S_).sem 3#32 >>= fun _ => rest

end Program

/-- The offset of device `e`'s rows as the program computes it. -/
def offP (c : Dev nD) (e : Fin 8) : Fin 2 → Nat :=
  ![k0_off2 c, k0_off1 c 1#32, k0_off1 c 2#32, k0_off1 c 3#32, k0_off1 c 4#32, k0_off1 c 5#32, k0_off1 c 6#32, k0_off1 c 7#32] e

theorem offP_inb : ∀ (c : Dev nD) (e : Fin 8) (a), offP c e a + S512x512.size a ≤ S4096x512.size a := by decide +kernel

/-- The partner of a slot as the program computes it. -/
def nbP (c : Dev nD) (t : Bool) (k : Fin 7) : Dev nD :=
  pick (![⟨k0_dev3 c, k0_dev3_lt c⟩, ⟨k0_dev3 c, k0_dev3_lt c⟩, ⟨k0_dev3 c, k0_dev3_lt c⟩, ⟨k0_dev3 c, k0_dev3_lt c⟩,
      ⟨k0_dev2 c, k0_dev2_lt c⟩, ⟨k0_dev2 c, k0_dev2_lt c⟩, ⟨k0_dev1 c, k0_dev1_lt c⟩] k)
    (![⟨k0_dev1 c, k0_dev1_lt c⟩, ⟨k0_dev1 c, k0_dev1_lt c⟩, ⟨k0_dev1 c, k0_dev1_lt c⟩, ⟨k0_dev1 c, k0_dev1_lt c⟩,
      ⟨k0_dev2 c, k0_dev2_lt c⟩, ⟨k0_dev2 c, k0_dev2_lt c⟩, ⟨k0_dev3 c, k0_dev3_lt c⟩] k) t

set_option maxRecDepth 65536 in
/-- The printed body is the program of blocks. -/
theorem body_eq (x : Memref sig .tc .vmem S4096x512 .fp8e4m3) (hx : x.IsWhole) (w : Memref sig .tc .vmem S512x2048 .fp8e4m3) (hw : w.IsWhole)
    (sx : Memref sig .tc .smem S1 .f32) (hsx : sx.IsWhole) (sw : Memref sig .tc .smem S1 .f32) (hsw : sw.IsWhole)
    (o : Memref sig .tc .vmem S512x2048 .f32) (ho : o.IsWhole)
    (xb : Memref sig .tc .vmem S4096x512 .bf16) (hxb : xb.IsWhole) (wb : Memref sig .tc .vmem S512x2048 .bf16) (hwb : wb.IsWhole)
    (sb rb : Bool → Memref sig .tc .vmem S7x4x512x256 .bf16) (hsb : ∀ t, (sb t).IsWhole) (hrb : ∀ t, (rb t).IsWhole)
    (ss rs : Bool → DmaSems sig S7x4) :
    cc0_body (F := F) x hx w hw sx hsx sw hsw o ho xb hxb wb hwb (sb false) (hsb false) (rb false) (hrb false) (ss false) (rs false)
        (sb true) (hsb true) (rb true) (hrb true) (ss true) (rs true)
      = .op .deviceId fun d => opening x w xb hxb wb hwb ⟨k0_dev1 d, k0_dev1_lt d⟩ ⟨k0_dev2 d, k0_dev2_lt d⟩ ⟨k0_dev3 d, k0_dev3_lt d⟩
          (rounds sx sw o xb wb sb rb hsb hrb ss rs (offP d) (offP_inb d) (nbP d)) := by
  chain_rfl

end Cert.Exchange

end
-- ==== Proof.K.Protocol.lean ====
/-
# The exchange as a protocol

The buffers, partners and semaphores of the exchange; what each slot holds when it is sent and when it is
received; the rounds of every semaphore; what a device owes while it runs, and the levels that order its waits.
-/
module

public import proofs.«01_k».proof.Proof.K.Body

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds and the exchange's -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Partners -/

/-- The device whose number differs from `c`'s in the bits of `e`. -/
def dx (c : Dev nD) (e : Fin 8) : Dev nD := ⟨(c.val ^^^ e.val) % 8, Nat.mod_lt _ (by decide)⟩

theorem dx_dx : ∀ (c : Dev nD) (e : Fin 8), dx (dx c e) e = c := by decide +kernel

/-- The three partners of a device, in the order its opening signals them. -/
def par (i : Fin 3) (c : Dev nD) : Dev nD := dx c (![1, 3, 4] i)

theorem par_par (i : Fin 3) (c : Dev nD) : par i (par i c) = c := dx_dx c _

/-- Taking the partner is its own inverse. -/
def parEquiv (i : Fin 3) : Dev nD ≃ Dev nD := ⟨par i, par i, par_par i, par_par i⟩

/-- Which of the partners a slot of stream `t` is exchanged with. -/
def mi (t : Bool) (k : Fin 7) : Fin 3 := pick (![2, 2, 2, 2, 1, 1, 0] k) (![0, 0, 0, 0, 1, 1, 2] k) t

/-- The device a slot is exchanged with. -/
def peer (t : Bool) (k : Fin 7) (c : Dev nD) : Dev nD := par (mi t k) c

theorem peer_peer (t : Bool) (k : Fin 7) (c : Dev nD) : peer t k (peer t k c) = c := par_par _ c

theorem dev1_eq : ∀ c : Dev nD, (⟨k0_dev1 c, k0_dev1_lt c⟩ : Dev nD) = par 0 c := by decide +kernel
theorem dev2_eq : ∀ c : Dev nD, (⟨k0_dev2 c, k0_dev2_lt c⟩ : Dev nD) = par 1 c := by decide +kernel
theorem dev3_eq : ∀ c : Dev nD, (⟨k0_dev3 c, k0_dev3_lt c⟩ : Dev nD) = par 2 c := by decide +kernel
theorem nbP_eq : ∀ (c : Dev nD) (t : Bool) (k : Fin 7), nbP c t k = peer t k c := by decide +kernel
theorem offP_eq : ∀ (c : Dev nD) (e : Fin 8), offP c e = ![512 * (dx c e).val, 0] := by decide +kernel

/-! ## Buffers and semaphores -/

abbrev xM : Memref sig .tc .vmem S4096x512 .fp8e4m3 := Memref.whole cc0_stg0_0
abbrev wM : Memref sig .tc .vmem S512x2048 .fp8e4m3 := Memref.whole cc0_stg1_0
abbrev sxM : Memref sig .tc .smem S1 .f32 := Memref.whole cc0_stg2_0
abbrev swM : Memref sig .tc .smem S1 .f32 := Memref.whole cc0_stg3_0
abbrev oM : Memref sig .tc .vmem S512x2048 .f32 := Memref.whole cc0_stg4_0
abbrev xbM : Memref sig .tc .vmem S4096x512 .bf16 := Memref.whole cc0_scratch0
abbrev wbM : Memref sig .tc .vmem S512x2048 .bf16 := Memref.whole cc0_scratch1

/-- The two streams' send buffers and receive buffers. -/
def sbM : Bool → Memref sig .tc .vmem S7x4x512x256 .bf16 := pick (Memref.whole cc0_scratch2) (Memref.whole cc0_scratch6)
def rbM : Bool → Memref sig .tc .vmem S7x4x512x256 .bf16 := pick (Memref.whole cc0_scratch3) (Memref.whole cc0_scratch7)

theorem sbM_whole : ∀ t, (sbM t).IsWhole
  | false => Memref.isWhole_whole _
  | true => Memref.isWhole_whole _
theorem rbM_whole : ∀ t, (rbM t).IsWhole
  | false => Memref.isWhole_whole _
  | true => Memref.isWhole_whole _

/-- The transfers' semaphores: `false` counts what has left, `true` what has landed. -/
def semA (d t : Bool) : DmaSems sig S7x4 := pick (pick cc0_scratch4 cc0_scratch8 t) (pick cc0_scratch5 cc0_scratch9 t) d

/-- The semaphores of the transfers by direction, stream, slot and quarter. -/
abbrev XI : Type := Bool × Bool × Fin 7 × Fin 4
/-- The transfers by stream, slot and quarter. -/
abbrev JJ : Type := Bool × Fin 7 × Fin 4

abbrev xsem (i : XI) : DmaSem sig := slotS (semA i.1 i.2.1) i.2.2.1 i.2.2.2

/-- Which transfer a semaphore counts. -/
def dec (q : DmaSem sig) : Option XI :=
  if q.val < 5 then none
  else some (decide ((q.val - 5) / 28 % 2 = 1), decide ((q.val - 5) / 56 = 1),
    ⟨(q.val - 5) % 28 / 4 % 7, Nat.mod_lt _ (by decide)⟩, ⟨(q.val - 5) % 4, Nat.mod_lt _ (by decide)⟩)

theorem dec_xsem : ∀ i : XI, dec (xsem i) = some i := by decide +kernel
theorem xsem_injective : Function.Injective xsem := fun i j h => Option.some.inj (by rw [← dec_xsem i, ← dec_xsem j, h])

/-- The barrier's semaphore. -/
abbrev barS : Sem sig := (SemArray.scalar (sig.barrier 0 rfl) : Sems sig S_).sem

abbrev barCell (c : Dev nD) : GSem nD τ sig := ((c : Thread nD τ), .reg barS)
abbrev xCell (c : Dev nD) (i : XI) : GSem nD τ sig := ((c : Thread nD τ), .dma (xsem i))
abbrev sCell (c : Dev nD) (t : Bool) (k : Fin 7) (s : Fin 4) : GSem nD τ sig := xCell c (false, t, k, s)
abbrev rCell (c : Dev nD) (t : Bool) (k : Fin 7) (s : Fin 4) : GSem nD τ sig := xCell c (true, t, k, s)

/-- All of them, by index. -/
abbrev csem : Option XI → SemLoc sig
  | none => .reg barS
  | some i => .dma (xsem i)
abbrev kcell (ck : Dev nD × Option XI) : GSem nD τ sig := ((ck.1 : Thread nD τ), csem ck.2)

/-- One transfer's credit. -/
abbrev N : ℕ := (slotM (rbM false) 0 0).view.dmaCredit
theorem N_pos : 0 < N := View.dmaCredit_pos _ (by decide)
theorem credit_rb (t : Bool) (k : Fin 7) (s : Fin 4) : (slotM (rbM t) k s).view.dmaCredit = N := by cases t <;> rfl
theorem credit_sb (t : Bool) (k : Fin 7) (s : Fin 4) : (slotM (sbM t) k s).view.dmaCredit = N := by cases t <;> rfl

/-! ## Contents -/

/-- The staged arguments of device `c`. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))
def sxstg (c : Dev nD) : (cc0_stg2_0 : Ref sig .tc).ty.Contents (Elt F) :=
  (win0_2.blk (0 : Fin 1)).view.read (Elt F) ((s₀ m ρ).mem ((c : Thread nD τ).loc main_arg2))
def swstg (c : Dev nD) : (cc0_stg3_0 : Ref sig .tc).ty.Contents (Elt F) :=
  (win0_3.blk (0 : Fin 1)).view.read (Elt F) ((s₀ m ρ).mem ((c : Thread nD τ).loc main_arg3))

/-- The arguments cast, as the scratch buffers hold them. -/
def xbv (c : Dev nD) : (cc0_scratch0 : Ref sig .tc).ty.Contents (Elt F) := k0_pay2 (xstg m ρ c)
def wbv (c : Dev nD) : (cc0_scratch1 : Ref sig .tc).ty.Contents (Elt F) := k0_pay3 (wstg m ρ c)

/-- The product of device `e`'s rows (counted from `c`) with the stream's columns, as `c` computes it. -/
def prodAt (c : Dev nD) (t : Bool) (e : Fin 8) : FVec F S512x1024 .f32 :=
  prod ((xbM.view).readAt (Elt F) (Rect.unit (s := S4096x512) (offP c e) S512x512.size (offP_inb c e)).toLoadRect (xbv m ρ c))
    ((wbM.view).readAt (Elt F) (Rect.unit (s := S512x2048) ![0, pick 0 1024 t] S512x1024.size (col_inb t)).toLoadRect (wbv m ρ c))

/-- What `c` sends in the three rounds. -/
def sentA (c : Dev nD) (t : Bool) (k : Fin 7) (s : Fin 4) : FVec F S1x1x512x256 .bf16 := payA s (prodAt m ρ c t (rowsOf t k))
def sentB (c : Dev nD) (t : Bool) (j k : Fin 7) (s : Fin 4) : FVec F S1x1x512x256 .bf16 :=
  payB s (sentA m ρ (peer t j c) t j s) (prodAt m ρ c t (rowsOf t k))
def sentC (c : Dev nD) (t : Bool) (s : Fin 4) : FVec F S1x1x512x256 .bf16 :=
  payC s (sentA m ρ (peer t 2 c) t 2 s) (sentB m ρ (peer t 4 c) t 0 4 s) (prodAt m ρ c t (rowsOf t 6))
def sent (c : Dev nD) (t : Bool) (k : Fin 7) (s : Fin 4) : FVec F S1x1x512x256 .bf16 :=
  if k = 4 then sentB m ρ c t 0 4 s else if k = 5 then sentB m ρ c t 1 5 s else if k = 6 then sentC m ρ c t s else sentA m ρ c t k s
/-- What `c` receives: what its partner sent. -/
def got (c : Dev nD) (t : Bool) (k : Fin 7) (s : Fin 4) : FVec F S1x1x512x256 .bf16 := sent m ρ (peer t k c) t k s

/-- The one element of a scalar's staging buffer. -/
abbrev oneR : Rect S1 := Rect.unit (s := S1) ![0] S1.size inb_S1_S1_0
abbrev oneI : oneR.shape.Idx := Shape.Idx.first (numel1_S1.symm ▸ Nat.one_pos)
/-- The scale of device `c`. -/
def zAt (c : Dev nD) : F .f32 :=
  Scalar.mulf ((sxM.access oneR).read (Elt F) (sxstg m ρ c) oneI) ((swM.access oneR).read (Elt F) (swstg m ρ c) oneI)

/-- The result's block of quarter `s` of stream `t`. -/
def outQ (c : Dev nD) (t : Bool) (s : Fin 4) : FVec F S512x256 .f32 :=
  payD s (zAt m ρ c) (got m ρ c t 3 s) (got m ρ c t 5 s) (got m ρ c t 6 s) (prodAt m ρ c t 0)

/-! ## Slots held -/

/-- A slot of buffer `b` on device `c`, holding `f`; -/
def slotAt (b : Memref sig .tc .vmem S7x4x512x256 .bf16) (c : Dev nD) (k : Fin 7) (s : Fin 4) (f : Buf (Elt F) ((slotM b k s).view.loc (c : Thread nD τ))) : sProp 𝕄 :=
  (slotM b k s).view.loc (c : Thread nD τ) ↦[(slotM b k s).view.set]{fullShare} f
/-- with any contents; -/
def slotAny (b : Memref sig .tc .vmem S7x4x512x256 .bf16) (c : Dev nD) (k : Fin 7) (s : Fin 4) : sProp 𝕄 := iprop(∃ f, slotAt b c k s f)
/-- with contents that read as `X`. -/
def slotIs (b : Memref sig .tc .vmem S7x4x512x256 .bf16) (c : Dev nD) (k : Fin 7) (s : Fin 4) (X : FVec F S1x1x512x256 .bf16) : sProp 𝕄 :=
  iprop(∃ f, ⌜(b.view.slice (slotR k s)).read (Elt F) f = X⌝ ∗ slotAt b c k s f)

omit [FloatOps F] in
instance slotAt_storable (b) (c : Dev nD) (k s f) : BI.Storable (upEmb : UEmb _ 𝕄) (slotAt (F := F) b c k s f) := by unfold slotAt; infer_instance
omit [FloatOps F] in
instance slotAny_storable (b) (c : Dev nD) (k s) : BI.Storable (upEmb : UEmb _ 𝕄) (slotAny (F := F) b c k s) := by unfold slotAny; infer_instance
instance slotIs_storable (b) (c : Dev nD) (k s X) : BI.Storable (upEmb : UEmb _ 𝕄) (slotIs (F := F) b c k s X) := by unfold slotIs; infer_instance

theorem slotIs_any (b) (c : Dev nD) (k s X) : slotIs (F := F) b c k s X ⊢ slotAny b c k s := by
  unfold slotIs slotAny; iintro ⟨%f, -, H⟩; iexists f; iexact H

/-! ## The schedule -/

/-- What the partner `par i c` hands `c` with its signal: its receive slots that `c` sends into. -/
def barPay (c : Dev nD) (i : Fin 3) : sProp 𝕄 :=
  bigSep Finset.univ fun j : JJ => if mi j.1 j.2.1 = i then slotAny (rbM j.1) (par i c) j.2.1 j.2.2 else iprop(emp)

/-- What a transfer's semaphore hands its device: the send slot back, or the receive slot with what was sent. -/
def pay (c : Dev nD) : Option XI → sProp 𝕄
  | none => iprop(emp)
  | some (false, t, k, s) => slotAny (sbM t) c k s
  | some (true, t, k, s) => slotIs (rbM t) c k s (got m ρ c t k s)

omit [FloatOps F] in
instance barPay_storable (c : Dev nD) (i : Fin 3) : BI.Storable (upEmb : UEmb _ 𝕄) (barPay (F := F) c i) := by
  unfold barPay
  have : ∀ j : JJ, BI.Storable (upEmb : UEmb _ 𝕄) (if mi j.1 j.2.1 = i then slotAny (F := F) (rbM j.1) (par i c) j.2.1 j.2.2 else iprop(emp)) :=
    fun j => by split <;> infer_instance
  infer_instance
instance pay_storable (c : Dev nD) : ∀ o, BI.Storable (upEmb : UEmb _ 𝕄) (pay (F := F) m ρ c o)
  | none => by unfold pay; infer_instance
  | some (false, t, k, s) => by unfold pay; infer_instance
  | some (true, t, k, s) => by unfold pay; infer_instance

/-- One round: the barrier's semaphore has a duty of one unit for each partner, a transfer's semaphore one duty of
    its credit. -/
def exRd : Rounds.Schedule (GSem nD τ sig) (Fin 3) 𝕄 where
  duties g r := if r = 0 ∧ g.1.2 = .tc then (match g.2 with
    | .reg q => if q = barS then Finset.univ else ∅
    | .dma q => if (dec q).isSome then {0} else ∅) else ∅
  unitless _ := False
  amount g _ _ := match g.2 with | .reg _ => 1 | .dma _ => N
  payload g _ d := match g.2 with | .reg _ => barPay g.1.1 d | .dma q => pay m ρ g.1.1 (dec q)
  amount_pos g _ _ _ := by
    rcases g with ⟨_, q | q⟩
    · exact Nat.one_pos
    · exact N_pos

instance exRd_payload_storable (g : GSem nD τ sig) (r : ℕ) (d : Fin 3) :
    BI.Storable (upEmb : UEmb _ 𝕄) ((exRd (F := F) m ρ).payload g r d) := by
  rcases g with ⟨_, q | q⟩
  · exact barPay_storable _ _
  · exact pay_storable _ _ _ _

section Sched
variable (c : Dev nD) (i : XI)

omit i in
theorem duties_bar : (exRd (F := F) m ρ).duties (barCell c) 0 = Finset.univ := by
  dsimp only [exRd]; rw [if_pos ⟨rfl, rfl⟩, if_pos rfl]
theorem duties_x : (exRd (F := F) m ρ).duties (xCell c i) 0 = {0} := by
  dsimp only [exRd]; rw [if_pos ⟨rfl, rfl⟩, dec_xsem]; exact if_pos rfl
theorem duties_later (g : GSem nD τ sig) : ∀ r, 1 ≤ r → (exRd (F := F) m ρ).duties g r = ∅ :=
  fun r hr => by dsimp only [exRd]; exact if_neg fun h => by omega
theorem amount_bar (d : Fin 3) : (exRd (F := F) m ρ).amount (barCell c) 0 d = 1 := rfl
theorem amount_x (d : Fin 3) : (exRd (F := F) m ρ).amount (xCell c i) 0 d = N := rfl
theorem expect_bar : (exRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_x : (exRd (F := F) m ρ).expect (xCell c i) 0 = N := by
  unfold Schedule.expect Schedule.amountOf; rw [duties_x, Finset.sum_singleton, amount_x]
theorem payload_bar (d : Fin 3) : (exRd (F := F) m ρ).payload (barCell c) 0 d = barPay c d := rfl
theorem payload_x (d : Fin 3) : (exRd (F := F) m ρ).payload (xCell c i) 0 d = pay m ρ c (some i) := by
  dsimp only [exRd]; rw [dec_xsem]

/-- The barrier's round, no duty taken: what the three partners hand over. -/
theorem rest_bar : bigSep ((exRd (F := F) m ρ).duties (barCell c) 0 \ ∅) (fun d => (exRd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_x : bigSep ((exRd (F := F) m ρ).duties (xCell c i) 0 \ ∅) (fun d => (exRd (F := F) m ρ).payload (xCell c i) 0 d) = pay m ρ c (some i) := by
  rw [Finset.sdiff_empty, duties_x, bigSep_singleton, payload_x]

end Sched

/-! ## What a device owes; the levels -/

/-- The credits device `c` owes its partners for the transfers `l`. -/
def owesOn (c : Dev nD) : List JJ → CellTallies nD τ sig Unit
  | [] => 0
  | j :: l => owesOn c l + tallyAt (rCell (peer j.1 j.2.1 c) j.1 j.2.1 j.2.2) () N

/-- The four quarters of a slot. -/
def quad (t : Bool) (k : Fin 7) (l : List JJ) : List JJ := (t, k, 0) :: (t, k, 1) :: (t, k, 2) :: (t, k, 3) :: l

/-- The transfers of the second round on, in the order they start; -/
def laterL : List JJ := quad false 4 <| quad true 4 <| quad false 5 <| quad true 5 <| quad false 6 <| quad true 6 []
/-- all the transfers. -/
def allL : List JJ := quad false 0 <| quad true 0 <| quad false 1 <| quad true 1 <| quad false 2 <| quad true 2 <| quad false 3 <| quad true 3 laterL

theorem allL_nodup : allL.Nodup := by decide +kernel
theorem allL_univ : (Finset.univ : Finset JJ) = allL.toFinset := by decide +kernel

/-- At launch: all the transfers, and a unit to each partner's barrier. -/
def O₂ (c : Dev nD) : CellTallies nD τ sig Unit := owesOn c allL + tallyAt (barCell (par 2 c)) () 1
def O₁ (c : Dev nD) : CellTallies nD τ sig Unit := O₂ c + tallyAt (barCell (par 1 c)) () 1
def O₀ (c : Dev nD) : CellTallies nD τ sig Unit := O₁ c + tallyAt (barCell (par 0 c)) () 1

def L (g : GSem nD τ sig) : Finset Unit := if g.1.2 = .tc then {()} else ∅
/-- The round a slot is received in. -/
def rank (k : Fin 7) : ℕ := if k.val < 4 then 2 else if k.val < 6 then 3 else 4
/-- The barrier's at 1, what lands at the number of its round, everything else at 0. -/
def lv (g : GSem nD τ sig) (_ : Unit) : ℕ := match g.2 with
  | .reg _ => 1
  | .dma q => match dec q with
    | some (true, _, k, _) => rank k
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_r (c : Dev nD) (t k s) (u : Unit) : lv (rCell c t k s) u = rank k := by dsimp only [lv]; rw [dec_xsem]
theorem lv_s (c : Dev nD) (t k s) (u : Unit) : lv (sCell c t k s) u = 0 := by dsimp only [lv]; rw [dec_xsem]
theorem rank_pos (k : Fin 7) : 1 < rank k := by unfold rank; split_ifs <;> decide

/-- What is owed for transfers is owed to what their partners receive. -/
theorem owesOn_pos {c : Dev nD} {g : GSem nD τ sig} {u : Unit} : ∀ {l : List JJ}, 0 < owesOn c l g u →
    ∃ j ∈ l, g = rCell (peer j.1 j.2.1 c) j.1 j.2.1 j.2.2
  | [], h => absurd h (Nat.lt_irrefl 0)
  | j :: l, h => by
    unfold owesOn at h
    rw [Pi.add_apply, Finsupp.add_apply, tallyAt_apply] at h
    by_cases hj : g = rCell (peer j.1 j.2.1 c) j.1 j.2.1 j.2.2 ∧ u = ()
    · exact ⟨j, List.mem_cons_self, hj.1⟩
    · rw [if_neg hj, Nat.add_zero] at h
      obtain ⟨j', hm, he⟩ := owesOn_pos h
      exact ⟨j', List.mem_cons_of_mem _ hm, he⟩

theorem O₀_pos {c : Dev nD} {g : GSem nD τ sig} {u : Unit} (h : 0 < O₀ c g u) :
    (∃ j ∈ allL, g = rCell (peer j.1 j.2.1 c) j.1 j.2.1 j.2.2) ∨ ∃ i, g = barCell (par i c) := by
  unfold O₀ O₁ O₂ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨2, h'.1⟩), if_neg (fun h' => hn.2 ⟨1, h'.1⟩), if_neg (fun h' => hn.2 ⟨0, h'.1⟩)] at h
  simp only [Nat.add_zero] at h
  exact hn.1 (owesOn_pos h)

/-- A wait at a level below every transfer still owed is allowed. -/
theorem mayWait_on (c : Dev nD) (sm : SemLoc sig) (n : ℕ) (hn : lv ((c : Thread nD τ), sm) () ≤ n) (l : List JJ) (hl : ∀ j ∈ l, n < rank j.2.1) :
    (levAts L lv : sProp 𝕄) ⊢ MayWait (c : Thread nD τ) sm () (owesOn c l) :=
  MayOwe.of_cut (L := L) (lev := lv) n (fun p hp => by rw [Finset.mem_singleton.mp hp, L_tc]; exact Finset.mem_singleton_self _)
    (fun g u hg => by obtain ⟨j, -, rfl⟩ := owesOn_pos hg; rw [L_tc]; exact Finset.mem_singleton_self _)
    (fun p hp => by rw [Finset.mem_singleton.mp hp]; exact hn)
    (fun g u hg => by obtain ⟨j, hj, rfl⟩ := owesOn_pos hg; rw [lv_r]; exact hl j hj)

/-- A wait on a staging semaphore is allowed at launch and at the end. -/
theorem mayWait_stage (c : Dev nD) (q : DmaSem sig) (hq : dec q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases O₀_pos hg with ⟨j, -, rfl⟩ | ⟨i, rfl⟩ <;> exact Finset.mem_singleton_self _)
      (fun p hp => by rw [Finset.mem_singleton.mp hp]; dsimp only [lv]; rw [hq])
      (fun g u hg => by
        rcases O₀_pos hg with ⟨j, -, rfl⟩ | ⟨i, rfl⟩
        · rw [lv_r]; exact lt_trans Nat.zero_lt_one (rank_pos _)
        · rw [lv_bar]; exact Nat.zero_lt_one)
  · rw [MayWait_zero]; iintro -; iempintro

end Cert.Exchange

end
-- ==== Proof.K.Steps.lean ====
/-
# The steps of the exchange

One slot's transfer started, waited for and read, for any stream, slot and quarter; then the blocks made of them.
-/
module

public import proofs.«01_k».proof.Proof.K.Protocol

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The proof obligation of program `p` on device `c`. -/
abbrev WP (c : Dev nD) (p : PP F) (Q : PUnit → sProp 𝕄) : sProp 𝕄 :=
  wp frame (wpE (defs₀ (F := F)) 𝒱₀ (c : Thread nD τ) none) Set.univ p Q

/-! ## What every step may use, and the states of a slot -/

/-- Every semaphore's invariant under the names `K`, and that each has reached its round. -/
def records (K : Dev nD × Option XI → ℕ) : sProp 𝕄 :=
  iprop((bigSep Finset.univ fun ck : Dev nD × Option XI => cellInv ER (exRd m ρ) (K ck) (kcell ck))
    ∗ bigSep Finset.univ fun ck : Dev nD × Option XI => reached ER (kcell ck) 0)

instance records_persistent (K : Dev nD × Option XI → ℕ) : BI.Persistent (records m ρ K) := by unfold records; infer_instance

theorem inv_at (K : Dev nD × Option XI → ℕ) (ck : Dev nD × Option XI) : records m ρ K ⊢ cellInv ER (exRd m ρ) (K ck) (kcell ck) := by
  unfold records
  exact sep_elim_left.trans (bigSep_elim (Finset.mem_univ ck))
theorem reached_at (K : Dev nD × Option XI → ℕ) (ck : Dev nD × Option XI) : records m ρ K ⊢ reached ER (kcell ck) 0 := by
  unfold records
  exact sep_elim_right.trans (bigSep_elim (Finset.mem_univ ck))

/-- The invariants, and the levels of the waits. -/
def world (K : Dev nD × Option XI → ℕ) : sProp 𝕄 := iprop(records m ρ K ∗ levAts L lv)
instance world_persistent (K : Dev nD × Option XI → ℕ) : BI.Persistent (world m ρ K) := by unfold world; infer_instance

/-- The cast arguments in the scratch buffers. -/
def bufs (c : Dev nD) : sProp 𝕄 :=
  iprop((xbM.view.loc (c : Thread nD τ) ↦{fullShare} xbv m ρ c) ∗ (wbM.view.loc (c : Thread nD τ) ↦{fullShare} wbv m ρ c))

/-- What device `c` owes for the transfers `l`. -/
def ow (c : Dev nD) (l : List JJ) : sProp 𝕄 := iprop(∃ W, owes (c : Thread nD τ) (owesOn c l) W)

/-- What device `c` holds of a slot's semaphores until it waits for it. -/
def wt (c : Dev nD) (t : Bool) (k : Fin 7) (s : Fin 4) : sProp 𝕄 :=
  iprop(cred (tallyAt (rCell c t k s) () N) ∗ atPos ER (sCell c t k s) 0 ∅ 0 ∗ atPos ER (rCell c t k s) 0 ∅ 0)
/-- A slot before its transfer starts: both ends, and the two duties the transfer pays. -/
def before (c : Dev nD) (t : Bool) (k : Fin 7) (s : Fin 4) : sProp 𝕄 :=
  iprop(slotAny (rbM t) (peer t k c) k s ∗ slotAny (sbM t) c k s ∗ dutyTok ER (sCell c t k s) 0 0 ∗ dutyTok ER (rCell (peer t k c) t k s) 0 0 ∗ wt c t k s)
/-- While it is under way: the credits of its waits. -/
def during (c : Dev nD) (t : Bool) (k : Fin 7) (s : Fin 4) : sProp 𝕄 := iprop(cred (tallyAt (sCell c t k s) () N) ∗ wt c t k s)
/-- After it: its own receive slot holding what the partner sent, the semaphores at zero. -/
def after (c : Dev nD) (t : Bool) (k : Fin 7) (s : Fin 4) : sProp 𝕄 :=
  iprop(slotAny (sbM t) c k s ∗ slotIs (rbM t) c k s (got m ρ c t k s) ∗ semVal (sCell c t k s) 0 ∗ semVal (rCell c t k s) 0)

/-- A thing for each quarter. -/
def four (Φ : Fin 4 → sProp 𝕄) : sProp 𝕄 := iprop(Φ 0 ∗ Φ 1 ∗ Φ 2 ∗ Φ 3)

/-! ## Starting a transfer -/

/-- A landed slot reads as the slot it came from. -/
theorem moved (sb rb : Memref sig .tc .vmem S7x4x512x256 .bf16) (k : Fin 7) (s : Fin 4) (fd : rb.view.ty.Contents (Elt F)) (fs : sb.view.ty.Contents (Elt F)) :
    (rb.view.slice (slotR k s)).read (Elt F) ((slotM rb k s).view.write (Elt F) fd ((slotM sb k s).view.read (Elt F) fs) Finset.univ)
      = (sb.view.slice (slotR k s)).read (Elt F) fs := by
  funext x
  obtain ⟨y, rfl⟩ := (Shape.reshapeEquiv (squeezes_S1x1x512x256_S512x256).numel_eq).surjective x
  exact congrFun (View.read_write_univ (v := (slotM rb k s).view) fd ((slotM sb k s).view.read (Elt F) fs)) y

/-- The transfer of a slot, addressed to `n`, the slot's partner: the send slot and the partner's receive slot go
    with it, and what is owed for it is paid. -/
theorem wp_transfer (K : Dev nD × Option XI → ℕ) (c n : Dev nD) (t : Bool) (k : Fin 7) (s : Fin 4) (hn : n = peer t k c) (l : List JJ)
    (v : FVec F S1x1x512x256 .bf16) (hv : v = sent m ρ c t k s)
    {hsc : (slotM (rbM t) k s : Memref sig (Dev.tc n : Thread nD τ).2.kind .vmem S512x256 .bf16).view.ref.isScScratch = false}
    {hsrc : (slotM (sbM t) k s).view.WordExact} {hdst : (slotM (rbM t) k s).view.WordExact}
    {hsem : DmaTarget.Typed .vmem (.dma (slotS (semA true t) k s)) (.remote (Dev.tc n : Thread nD τ) (slotM (rbM t) k s) (.dma (slotS (semA false t) k s)) hsc)}
    {Q : PUnit → sProp 𝕄} {rest : PP F} :
    iprop(world m ρ K ∗ slotIs (sbM t) c k s v ∗ slotAny (rbM t) (peer t k c) k s ∗ dutyTok ER (sCell c t k s) 0 0 ∗ dutyTok ER (rCell (peer t k c) t k s) 0 0
        ∗ wt c t k s ∗ ow c ((t, k, s) :: l))
      ⊢ iprop(((during c t k s ∗ ow c l) -∗ WP c rest Q)
          -∗ WP c (.op (.enqueueDma (slotM (sbM t) k s) (.remote (Dev.tc n : Thread nD τ) (slotM (rbM t) k s) (.dma (slotS (semA false t) k s)) hsc)
              (.dma (slotS (semA true t) k s)) hsrc hdst hsem) fun _ => rest) Q) := by
  subst hn
  unfold slotIs slotAny slotAt ow world
  iintro ⟨⟨#HR, #Hlev⟩, ⟨%fs, %hfs, Hs⟩, ⟨%fd, Hd⟩, Ht1, Ht2, Hwt, ⟨%W, HO⟩⟩ Hk
  iapply (Rounds.wp_send_pointsTo 𝒱₀ ER (exRd m ρ) (c : Thread nD τ) none (κ₁ := K (c, some (false, t, k, s))) (κ₂ := K (peer t k c, some (true, t, k, s)))
    (c' := (peer t k c : Thread nD τ)) (src := slotM (sbM t) k s) (dst := slotM (rbM t) k s)
    (sS := .dma (slotS (semA false t) k s)) (sem := .dma (slotS (semA true t) k s))
    (r₁ := 0) (r₂ := 0) (d₁ := 0) (d₂ := 0) (q := fullShare) (fd := fd) (fs := fs)
    (by show (0 : Fin 3) ∈ (exRd m ρ).duties (xCell c (false, t, k, s)) 0; rw [duties_x]; exact Finset.mem_singleton_self _)
    (by show (0 : Fin 3) ∈ (exRd m ρ).duties (xCell (peer t k c) (true, t, k, s)) 0; rw [duties_x]; exact Finset.mem_singleton_self _)
    () () N (credit_rb t k s) (amount_x m ρ c (false, t, k, s) 0) (amount_x m ρ (peer t k c) (true, t, k, s) 0) (owesOn c l) rfl (W := W)
    (by
      show _ ⊢ (exRd m ρ).payload (xCell c (false, t, k, s)) 0 0
      rw [payload_x]
      dsimp only [pay]; unfold slotAny slotAt; iintro H; iexists fs; iexact H)
    (by
      show _ ⊢ (exRd m ρ).payload (xCell (peer t k c) (true, t, k, s)) 0 0
      rw [payload_x]
      dsimp only [pay]; unfold slotIs slotAt
      iintro H; iexists _; isplitr
      rotate_left
      · iexact H
      · ipureintro; rw [moved, hfs, hv, got, peer_peer])) $$ [Hs Hd Ht1 Ht2 HO]
  · isplitr; · iapply (inv_at m ρ K (c, some (false, t, k, s))); iexact HR
    isplitr; · iapply (inv_at m ρ K (peer t k c, some (true, t, k, s))); iexact HR
    isplitl [Hs]; · iexact Hs
    isplitl [Hd]; · iexact Hd
    isplitl [HO]; · iexact HO
    isplitl [Ht1]; · iexact Ht1
    isplitr; · iapply (reached_at m ρ K (c, some (false, t, k, s))); iexact HR
    isplitl [Ht2]; · iexact Ht2
    iapply (reached_at m ρ K (peer t k c, some (true, t, k, s))); iexact HR
  iintro ⟨Hc, HO⟩
  iapply Hk
  unfold during
  isplitl [Hc Hwt]
  · isplitl [Hc]; · iexact Hc
    iexact Hwt
  iexists W; iexact HO

/-- A slot written and its transfer started. -/
theorem wp_sendStep (K : Dev nD × Option XI → ℕ) (c : Dev nD) (t : Bool) (k : Fin 7) (s : Fin 4) (l : List JJ)
    (v : FVec F S1x1x512x256 .bf16) (hv : v = sent m ρ c t k s) {Q : PUnit → sProp 𝕄} {rest : PP F} :
    iprop(world m ρ K ∗ before c t k s ∗ ow c ((t, k, s) :: l))
      ⊢ iprop(((during c t k s ∗ ow c l) -∗ WP c rest Q)
          -∗ WP c (send sbM rbM sbM_whole rbM_whole (semA false) (semA true) (nbP c) t k s v rest) Q) := by
  unfold before send
  iintro ⟨#Hw, ⟨Hr, Hs, Ht1, Ht2, Hwt⟩, HO⟩ Hk
  unfold slotAny slotAt
  icases Hs with ⟨%f, Hs⟩
  iapply (wp_load_rect 𝒱₀ (c : Thread nD τ) none Set.univ (m := sbM t) (r := slotR k s) (S := (slotM (sbM t) k s).view.set) (f := f)
    (by exact (View.set_reshape _ _).ge)) $$ Hs; iintro Hs
  iapply (wp_store 𝒱₀ (c : Thread nD τ) none Set.univ (m := sbM t) (r := slotR k s) (S := (slotM (sbM t) k s).view.set) (f := f) (w := v) (Mk := Finset.univ)
    (by exact (View.set_reshape _ _).ge)) $$ Hs; iintro Hs
  iapply (wp_transfer m ρ K c (nbP c t k) t k s (nbP_eq c t k) l v hv) $$ [Hr Hs Ht1 Ht2 Hwt HO]
  · isplitr; · iexact Hw
    isplitl [Hs]
    · unfold slotIs slotAt; iexists _; isplitr
      rotate_left
      · iexact Hs
      · ipureintro; exact View.read_write_univ _ _
    isplitl [Hr]
    · unfold slotAny slotAt; iexact Hr
    isplitl [Ht1]; · iexact Ht1
    isplitl [Ht2]; · iexact Ht2
    isplitl [Hwt]; · iexact Hwt
    iexact HO
  iexact Hk

/-! ## Waiting for a transfer, and reading what it brought -/

/-- Both waits of a slot: allowed when every transfer still owed belongs to a later round than the slot's. -/
theorem wp_waitStep (K : Dev nD × Option XI → ℕ) (c : Dev nD) (t : Bool) (k : Fin 7) (s : Fin 4) (l : List JJ) (hl : ∀ j ∈ l, rank k < rank j.2.1)
    {Q : PUnit → sProp 𝕄} {rest : PP F} :
    iprop(world m ρ K ∗ during c t k s ∗ ow c l)
      ⊢ iprop(((after m ρ c t k s ∗ ow c l) -∗ WP c rest Q)
          -∗ WP c (wait sbM rbM sbM_whole rbM_whole (semA false) (semA true) t k s rest) Q) := by
  unfold during wt wait ow world
  iintro ⟨⟨#HR, #Hlev⟩, ⟨HcS, HcR, HaS, HaR⟩, ⟨%W, HO⟩⟩ Hk
  iapply (Rounds.wp_wait_rest_token 𝒱₀ ER (exRd m ρ) (c : Thread nD τ) none (κ := K (c, some (false, t, k, s)))
      (wpE_waitDma2_eq 𝒱₀ (c : Thread nD τ) none Set.univ) (Set.mem_univ _) () (O := owesOn c l) (W := W) (R := 0) (m := 0) (T := ∅)
      (by
        show 0 + (slotM (sbM t) k s).view.dmaCredit = (exRd m ρ).expect (xCell c (false, t, k, s)) 0
        rw [Nat.zero_add, expect_x])) $$ [HcS HO HaS]
  · isplitr; · iapply (inv_at m ρ K (c, some (false, t, k, s))); iexact HR
    isplitl [HcS]; · rw [show (slotM (sbM t) k s).view.dmaCredit = N from credit_sb t k s]; iexact HcS
    isplitl [HO]; · iexact HO
    isplitr
    · iapply (mayWait_on c (.dma (slotS (semA false t) k s)) 0 (le_of_eq (lv_s c t k s ())) l (fun j hj => lt_of_le_of_lt (Nat.zero_le _) (hl j hj))); iexact Hlev
    iexact HaS
  iintro ⟨HO, HaS, -, HpS⟩
  iapply (Rounds.wp_wait_rest_token 𝒱₀ ER (exRd m ρ) (c : Thread nD τ) none (κ := K (c, some (true, t, k, s)))
      (wpE_waitDma2_eq 𝒱₀ (c : Thread nD τ) none Set.univ) (Set.mem_univ _) () (O := owesOn c l) (R := 0) (m := 0) (T := ∅)
      (by
        show 0 + (slotM (rbM t) k s).view.dmaCredit = (exRd m ρ).expect (xCell c (true, t, k, s)) 0
        rw [Nat.zero_add, expect_x])) $$ [HcR HO HaR]
  · isplitr; · iapply (inv_at m ρ K (c, some (true, t, k, s))); iexact HR
    isplitl [HcR]; · rw [show (slotM (rbM t) k s).view.dmaCredit = N from credit_rb t k s]; iexact HcR
    isplitl [HO]; · iexact HO
    isplitr
    · iapply (mayWait_on c (.dma (slotS (semA true t) k s)) (rank k) (le_of_eq (lv_r c t k s ())) l hl); iexact Hlev
    iexact HaR
  iintro ⟨HO, HaR, -, HpR⟩
  imod (Rounds.cell_close ER (exRd m ρ) (Set.mem_univ (K (c, some (false, t, k, s)))) (fun h => h) (R := 0 + 1) (duties_later m ρ (sCell c t k s))) $$ [HaS] with HzS
  · isplitr; · iapply (inv_at m ρ K (c, some (false, t, k, s))); iexact HR
    iexact HaS
  imod (Rounds.cell_close ER (exRd m ρ) (Set.mem_univ (K (c, some (true, t, k, s)))) (fun h => h) (R := 0 + 1) (duties_later m ρ (rCell c t k s))) $$ [HaR] with HzR
  · isplitr; · iapply (inv_at m ρ K (c, some (true, t, k, s))); iexact HR
    iexact HaR
  ihave HS := (show _ ⊢ slotAny (sbM t) c k s from Entails.of_eq (rest_x m ρ c (false, t, k, s))) $$ HpS
  ihave HV := (show _ ⊢ slotIs (rbM t) c k s (got m ρ c t k s) from Entails.of_eq (rest_x m ρ c (true, t, k, s))) $$ HpR
  iapply Hk
  isplitr [HO]
  · unfold after
    isplitl [HS]; · iexact HS
    isplitl [HV]; · iexact HV
    isplitl [HzS]; · iexact HzS
    iexact HzR
  iexists _; iexact HO

/-- A receive slot read: what the partner sent. -/
theorem wp_recvStep (c : Dev nD) (t : Bool) (k : Fin 7) (s : Fin 4) {Q : PUnit → sProp 𝕄} {go : Vec F S1x1x512x256 .bf16 → PP F} :
    after m ρ c t k s ⊢ iprop((after m ρ c t k s -∗ WP c (go (got m ρ c t k s)) Q) -∗ WP c (recv rbM t k s go) Q) := by
  unfold after recv slotIs slotAt
  iintro ⟨Hs, ⟨%f, %hf, Hr⟩, Hz⟩ Hk
  iapply (wp_load_rect 𝒱₀ (c : Thread nD τ) none Set.univ (m := rbM t) (r := slotR k s) (S := (slotM (rbM t) k s).view.set) (f := f)
    (by exact (View.set_reshape _ _).ge)) $$ Hr; iintro Hr
  rw [show ((rbM t).access (slotR k s) : View sig .tc _ _ _).read (Elt F) f = got m ρ c t k s from hf]
  iapply Hk
  isplitl [Hs]; · iexact Hs
  isplitl [Hr]
  · iexists f; isplitr; · (ipureintro; exact hf)
    iexact Hr
  iexact Hz

/-- The product of a block. -/
theorem wp_productStep (c : Dev nD) (t : Bool) (e : Fin 8) {Q : PUnit → sProp 𝕄} {go : FVec F S512x1024 .f32 → PP F} :
    bufs m ρ c ⊢ iprop((bufs m ρ c -∗ WP c (go (prodAt m ρ c t e)) Q) -∗ WP c (product xbM wbM (offP c) (offP_inb c) t e go) Q) := by
  unfold bufs product
  iintro ⟨Hx, Hw⟩ Hk
  iapply (wp_load 𝒱₀ (c : Thread nD τ) none Set.univ (m := xbM) (Finset.subset_univ _)) $$ Hx; iintro Hx
  iapply (wp_load 𝒱₀ (c : Thread nD τ) none Set.univ (m := wbM) (Finset.subset_univ _)) $$ Hw; iintro Hw
  iapply Hk
  isplitl [Hx]; · iexact Hx
  iexact Hw

end Cert.Exchange

end
-- ==== Proof.K.Blocks.lean ====
/-
# The blocks of the exchange

Each of the sixteen blocks, for any stream and slot: the product of its rows, then its four quarters, one after the
other by one rule for a quarter. Then the whole exchange.
-/
module

public import proofs.«01_k».proof.Proof.K.Steps
public import Idealize.ShloMosaic.Lib.ReshapeSlab

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Four quarters, one after the other -/

/-- A step that any quarter can take, taken for each in turn: `X` is what goes from one to the next. -/
theorem wp_quarters (c : Dev nD) (P : sProp 𝕄) [BI.Persistent P] (A B : Fin 4 → sProp 𝕄) (X : ℕ → sProp 𝕄) (f : Fin 4 → PP F → PP F) {Q : PUnit → sProp 𝕄}
    (h : ∀ s rest, iprop(P ∗ A s ∗ X s.val) ⊢ iprop(((B s ∗ X (s.val + 1)) -∗ WP c rest Q) -∗ WP c (f s rest) Q)) {rest : PP F} :
    iprop(P ∗ four A ∗ X 0) ⊢ iprop(((four B ∗ X 4) -∗ WP c rest Q) -∗ WP c (quarters f rest) Q) := by
  unfold four quarters
  iintro ⟨#HP, ⟨A0, A1, A2, A3⟩, HX⟩ Hk
  iapply (show iprop(P ∗ A 0 ∗ X 0) ⊢ iprop(((B 0 ∗ X 1) -∗ WP c _ Q) -∗ WP c _ Q) from h 0 _) $$ [A0 HX]
  · isplitr; · iexact HP
    isplitl [A0]; · iexact A0
    iexact HX
  iintro ⟨B0, HX⟩
  iapply (show iprop(P ∗ A 1 ∗ X 1) ⊢ iprop(((B 1 ∗ X 2) -∗ WP c _ Q) -∗ WP c _ Q) from h 1 _) $$ [A1 HX]
  · isplitr; · iexact HP
    isplitl [A1]; · iexact A1
    iexact HX
  iintro ⟨B1, HX⟩
  iapply (show iprop(P ∗ A 2 ∗ X 2) ⊢ iprop(((B 2 ∗ X 3) -∗ WP c _ Q) -∗ WP c _ Q) from h 2 _) $$ [A2 HX]
  · isplitr; · iexact HP
    isplitl [A2]; · iexact A2
    iexact HX
  iintro ⟨B2, HX⟩
  iapply (show iprop(P ∗ A 3 ∗ X 3) ⊢ iprop(((B 3 ∗ X 4) -∗ WP c _ Q) -∗ WP c _ Q) from h 3 _) $$ [A3 HX]
  · isplitr; · iexact HP
    isplitl [A3]; · iexact A3
    iexact HX
  iintro ⟨B3, HX⟩
  iapply Hk
  isplitr [HX]
  · isplitl [B0]; · iexact B0
    isplitl [B1]; · iexact B1
    isplitl [B2]; · iexact B2
    iexact B3
  iexact HX

omit [FloatOps F] in
theorem four_sep (A B : Fin 4 → sProp 𝕄) : (four fun s => iprop(A s ∗ B s)) = iprop(four A ∗ four B) := by
  have h : ∀ Φ : Fin 4 → sProp 𝕄, four Φ = bigSep Finset.univ Φ := fun Φ =>
    (bigSep_univ_eq_bigSepL [0, 1, 2, 3] (by decide) (by decide) Φ).symm
  rw [h, h, h, bigSep_sep']

/-- What is owed for a slot's quarters from the `i`-th on. -/
theorem quad_drop (t : Bool) (k : Fin 7) (l : List JJ) : ∀ s : Fin 4, (quad t k l).drop s.val = (t, k, s) :: (quad t k l).drop (s.val + 1)
  | 0 => rfl
  | 1 => rfl
  | 2 => rfl
  | 3 => rfl

theorem drop_mem {t : Bool} {k : Fin 7} {l : List JJ} {i : ℕ} {P : JJ → Prop} (h : ∀ j ∈ quad t k l, P j) : ∀ j ∈ (quad t k l).drop i, P j :=
  fun j hj => h j (List.mem_of_mem_drop hj)

/-! ## What the blocks send -/

theorem sent_A (c : Dev nD) (t : Bool) (k : Fin 7) (s : Fin 4) (hk : k.val < 4) : sent m ρ c t k s = payA s (prodAt m ρ c t (rowsOf t k)) := by
  unfold sent
  rw [if_neg (fun h => by subst h; exact absurd hk (by decide)), if_neg (fun h => by subst h; exact absurd hk (by decide)),
    if_neg (fun h => by subst h; exact absurd hk (by decide))]
  rfl
theorem sent_4 (c : Dev nD) (t : Bool) (s : Fin 4) : sent m ρ c t 4 s = sentB m ρ c t 0 4 s := if_pos rfl
theorem sent_5 (c : Dev nD) (t : Bool) (s : Fin 4) : sent m ρ c t 5 s = sentB m ρ c t 1 5 s := (if_neg (by decide)).trans (if_pos rfl)
theorem sent_6 (c : Dev nD) (t : Bool) (s : Fin 4) : sent m ρ c t 6 s = sentC m ρ c t s := (if_neg (by decide)).trans ((if_neg (by decide)).trans (if_pos rfl))
theorem sentB_eq (c : Dev nD) (t : Bool) (j k : Fin 7) (s : Fin 4) (hj : j.val < 4) :
    sentB m ρ c t j k s = payB s (got m ρ c t j s) (prodAt m ρ c t (rowsOf t k)) := by
  unfold got; rw [sent_A m ρ _ t j s hj]; rfl
theorem sentC_eq (c : Dev nD) (t : Bool) (s : Fin 4) :
    sentC m ρ c t s = payC s (got m ρ c t 2 s) (got m ρ c t 4 s) (prodAt m ρ c t (rowsOf t 6)) := by
  unfold got; rw [sent_A m ρ _ t 2 s (by decide), sent_4]; rfl

/-! ## The blocks -/

section Blocks

variable (K : Dev nD × Option XI → ℕ) (c : Dev nD) (t : Bool)

/-- A block of the first round. -/
theorem wp_blockA (k : Fin 7) (hk : k.val < 4) (l : List JJ) {Q : PUnit → sProp 𝕄} {rest : PP F} :
    iprop(world m ρ K ∗ bufs m ρ c ∗ four (before c t k) ∗ ow c (quad t k l))
      ⊢ iprop(((bufs m ρ c ∗ four (during c t k) ∗ ow c l) -∗ WP c rest Q)
          -∗ WP c (blockA xbM wbM sbM rbM sbM_whole rbM_whole (semA false) (semA true) (offP c) (offP_inb c) (nbP c) t k rest) Q) := by
  unfold blockA
  iintro ⟨#Hw, Hb, HA, HO⟩ Hk
  iapply (wp_productStep m ρ c t (rowsOf t k)) $$ Hb; iintro Hb
  iapply (wp_quarters c (world m ρ K) (before c t k) (during c t k) (fun i => ow c ((quad t k l).drop i)) _ (fun s rest => by
    rw [quad_drop]
    exact wp_sendStep m ρ K c t k s _ _ (sent_A m ρ c t k s hk).symm)) $$ [HA HO]
  · isplitr; · iexact Hw
    isplitl [HA]; · iexact HA
    iexact HO
  iintro ⟨HB, HO⟩
  iapply Hk
  isplitl [Hb]; · iexact Hb
  isplitl [HB]; · iexact HB
  iexact HO

/-- A block of the second round. -/
theorem wp_blockB (j k : Fin 7) (hj : j.val < 4) (hs : ∀ s, sent m ρ c t k s = sentB m ρ c t j k s) (l : List JJ) (hl : ∀ i ∈ quad t k l, rank j < rank i.2.1)
    {Q : PUnit → sProp 𝕄} {rest : PP F} :
    iprop(world m ρ K ∗ bufs m ρ c ∗ four (during c t j) ∗ four (before c t k) ∗ ow c (quad t k l))
      ⊢ iprop(((bufs m ρ c ∗ four (after m ρ c t j) ∗ four (during c t k) ∗ ow c l) -∗ WP c rest Q)
          -∗ WP c (blockB xbM wbM sbM rbM sbM_whole rbM_whole (semA false) (semA true) (offP c) (offP_inb c) (nbP c) t j k rest) Q) := by
  unfold blockB
  iintro ⟨#Hw, Hb, HA, HB, HO⟩ Hk
  iapply (wp_productStep m ρ c t (rowsOf t k)) $$ Hb; iintro Hb
  iapply (wp_quarters c (world m ρ K) (fun s => iprop(during c t j s ∗ before c t k s)) (fun s => iprop(after m ρ c t j s ∗ during c t k s))
    (fun i => ow c ((quad t k l).drop i)) _ (fun s rest => by
      iintro ⟨#Hw, ⟨HD, HB⟩, HO⟩ Hk
      iapply (wp_waitStep m ρ K c t j s _ (drop_mem hl)) $$ [HD HO]
      · isplitr; · iexact Hw
        isplitl [HD]; · iexact HD
        iexact HO
      iintro ⟨HD, HO⟩
      iapply (wp_recvStep m ρ c t j s) $$ HD; iintro HD
      rw [quad_drop]
      iapply (wp_sendStep m ρ K c t k s _ _ ((hs s).trans (sentB_eq m ρ c t j k s hj)).symm) $$ [HB HO]
      · isplitr; · iexact Hw
        isplitl [HB]; · iexact HB
        iexact HO
      iintro ⟨HB, HO⟩
      iapply Hk
      isplitr [HO]
      · isplitl [HD]; · iexact HD
        iexact HB
      iexact HO)) $$ [HA HB HO]
  · isplitr; · iexact Hw
    isplitr [HO]
    · rw [four_sep]
      isplitl [HA]; · iexact HA
      iexact HB
    iexact HO
  rw [four_sep]
  iintro ⟨⟨HA, HB⟩, HO⟩
  iapply Hk
  isplitl [Hb]; · iexact Hb
  isplitl [HA]; · iexact HA
  isplitl [HB]; · iexact HB
  iexact HO

/-- A block of the third round. -/
theorem wp_blockC (l : List JJ) (hl : ∀ i ∈ quad t 6 l, rank 4 < rank i.2.1) {Q : PUnit → sProp 𝕄} {rest : PP F} :
    iprop(world m ρ K ∗ bufs m ρ c ∗ four (during c t 2) ∗ four (during c t 4) ∗ four (before c t 6) ∗ ow c (quad t 6 l))
      ⊢ iprop(((bufs m ρ c ∗ four (after m ρ c t 2) ∗ four (after m ρ c t 4) ∗ four (during c t 6) ∗ ow c l) -∗ WP c rest Q)
          -∗ WP c (blockC xbM wbM sbM rbM sbM_whole rbM_whole (semA false) (semA true) (offP c) (offP_inb c) (nbP c) t rest) Q) := by
  have hl2 : ∀ i ∈ quad t 6 l, rank 2 < rank i.2.1 := fun i hi => lt_trans (by decide) (hl i hi)
  unfold blockC
  iintro ⟨#Hw, Hb, HA, HB, HC, HO⟩ Hk
  iapply (wp_productStep m ρ c t (rowsOf t 6)) $$ Hb; iintro Hb
  iapply (wp_quarters c (world m ρ K) (fun s => iprop(during c t 2 s ∗ during c t 4 s ∗ before c t 6 s))
    (fun s => iprop(after m ρ c t 2 s ∗ after m ρ c t 4 s ∗ during c t 6 s))
    (fun i => ow c ((quad t 6 l).drop i)) _ (fun s rest => by
      iintro ⟨#Hw, ⟨HD, HE, HB⟩, HO⟩ Hk
      iapply (wp_waitStep m ρ K c t 2 s _ (drop_mem hl2)) $$ [HD HO]
      · isplitr; · iexact Hw
        isplitl [HD]; · iexact HD
        iexact HO
      iintro ⟨HD, HO⟩
      iapply (wp_waitStep m ρ K c t 4 s _ (drop_mem hl)) $$ [HE HO]
      · isplitr; · iexact Hw
        isplitl [HE]; · iexact HE
        iexact HO
      iintro ⟨HE, HO⟩
      iapply (wp_recvStep m ρ c t 2 s) $$ HD; iintro HD
      iapply (wp_recvStep m ρ c t 4 s) $$ HE; iintro HE
      rw [quad_drop]
      iapply (wp_sendStep m ρ K c t 6 s _ _ ((sent_6 m ρ c t s).trans (sentC_eq m ρ c t s)).symm) $$ [HB HO]
      · isplitr; · iexact Hw
        isplitl [HB]; · iexact HB
        iexact HO
      iintro ⟨HB, HO⟩
      iapply Hk
      isplitr [HO]
      · isplitl [HD]; · iexact HD
        isplitl [HE]; · iexact HE
        iexact HB
      iexact HO)) $$ [HA HB HC HO]
  · isplitr; · iexact Hw
    isplitr [HO]
    · rw [four_sep, four_sep]
      isplitl [HA]; · iexact HA
      isplitl [HB]; · iexact HB
      iexact HC
    iexact HO
  rw [four_sep, four_sep]
  iintro ⟨⟨HA, HB, HC⟩, HO⟩
  iapply Hk
  isplitl [Hb]; · iexact Hb
  isplitl [HA]; · iexact HA
  isplitl [HB]; · iexact HB
  isplitl [HC]; · iexact HC
  iexact HO

/-! ## The result -/

/-- The rectangle of the result of stream `t`'s quarter `s`. -/
abbrev outR (t : Bool) (s : Fin 4) : Rect S512x2048 := Rect.unit (s := S512x2048) ![0, pick 0 1024 t + 256 * s.val] S512x256.size (out_inb t s)

/-- The result's buffer with the quarters in `D` written. -/
def outDone (c : Dev nD) (D : Bool → Fin 4 → Prop) : sProp 𝕄 :=
  iprop(∃ f, ⌜∀ t s, D t s → (oM.view.slice (outR t s)).read (Elt F) f = outQ m ρ c t s⌝ ∗ (oM.view.loc (c : Thread nD τ) ↦{fullShare} f))

theorem col_sep : ∀ (t t' : Bool) (s s' : Fin 4), ¬(t' = t ∧ s' = s) →
    pick 0 1024 t' + 256 * s'.val + 256 ≤ pick 0 1024 t + 256 * s.val ∨ pick 0 1024 t + 256 * s.val + 256 ≤ pick 0 1024 t' + 256 * s'.val := by decide

/-- Different quarters of the result share no element. -/
theorem out_disj (t t' : Bool) (s s' : Fin 4) (h : ¬(t' = t ∧ s' = s)) : Disjoint (oM.view.slice (outR t' s')).set (oM.view.slice (outR t s)).set :=
  View.disjoint_slice_of_sep oM.view (outR t' s') (outR t s) 1 rfl rfl (col_sep t t' s s' h)

/-- Writing a quarter of the result adds it to those written. -/
theorem out_step (D : Bool → Fin 4 → Prop) (s : Fin 4) (f : Buf (Elt F) (oM.view.loc (c : Thread nD τ)))
    (hf : ∀ t s, D t s → (oM.view.slice (outR t s)).read (Elt F) f = outQ m ρ c t s) (t' : Bool) (s' : Fin 4) (h : D t' s' ∨ (t' = t ∧ s' = s)) :
    (oM.view.slice (outR t' s')).read (Elt F) ((oM.view.slice (outR t s)).write (Elt F) f (outQ m ρ c t s) Finset.univ) = outQ m ρ c t' s' := by
  by_cases he : t' = t ∧ s' = s
  · obtain ⟨rfl, rfl⟩ := he; exact View.read_write_univ _ _
  · rw [View.read_slice_write_slice_of_disjoint (v := oM.view) (outR t' s') (outR t s) f (outQ m ρ c t s) Finset.univ
      (Finset.disjoint_of_subset_right (View.setOn_subset_set (v := oM.view.slice (outR t s)) _) (out_disj t t' s s' he))]
    exact hf t' s' (h.resolve_right he)

theorem outDone_congr {D D' : Bool → Fin 4 → Prop} (h : ∀ t s, D' t s → D t s) : outDone m ρ c D ⊢ outDone m ρ c D' := by
  unfold outDone
  iintro ⟨%f, %hf, H⟩
  iexists f; isplitr; · (ipureintro; exact fun t s hd => hf t s (h t s hd))
  iexact H

/-- A block of the result. -/
theorem wp_blockD (D : Bool → Fin 4 → Prop) {Q : PUnit → sProp 𝕄} {rest : PP F} :
    iprop(world m ρ K ∗ bufs m ρ c ∗ four (during c t 3) ∗ four (during c t 5) ∗ four (during c t 6) ∗ outDone m ρ c D ∗ ow c [])
      ⊢ iprop(((bufs m ρ c ∗ four (after m ρ c t 3) ∗ four (after m ρ c t 5) ∗ four (after m ρ c t 6) ∗ outDone m ρ c (fun t' s' => D t' s' ∨ t' = t) ∗ ow c []) -∗ WP c rest Q)
          -∗ WP c (blockD oM xbM wbM sbM rbM sbM_whole rbM_whole (semA false) (semA true) (offP c) (offP_inb c) (zAt m ρ c) t rest) Q) := by
  have h0 : ∀ k : Fin 7, ∀ i ∈ ([] : List JJ), rank k < rank i.2.1 := fun k i hi => absurd hi (List.not_mem_nil)
  unfold blockD
  iintro ⟨#Hw, Hb, HA, HB, HC, HU, HO⟩ Hk
  iapply (wp_productStep m ρ c t 0) $$ Hb; iintro Hb
  iapply (wp_quarters c (world m ρ K) (fun s => iprop(during c t 3 s ∗ during c t 5 s ∗ during c t 6 s))
    (fun s => iprop(after m ρ c t 3 s ∗ after m ρ c t 5 s ∗ after m ρ c t 6 s))
    (fun i => iprop(outDone m ρ c (fun t' s' => D t' s' ∨ (t' = t ∧ s'.val < i)) ∗ ow c [])) _ (fun s rest => by
      dsimp only
      iintro ⟨#Hw, ⟨HD, HE, HB⟩, HU, HO⟩ Hk
      iapply (wp_waitStep m ρ K c t 3 s _ (h0 3)) $$ [HD HO]
      · isplitr; · iexact Hw
        isplitl [HD]; · iexact HD
        iexact HO
      iintro ⟨HD, HO⟩
      iapply (wp_waitStep m ρ K c t 5 s _ (h0 5)) $$ [HE HO]
      · isplitr; · iexact Hw
        isplitl [HE]; · iexact HE
        iexact HO
      iintro ⟨HE, HO⟩
      iapply (wp_waitStep m ρ K c t 6 s _ (h0 6)) $$ [HB HO]
      · isplitr; · iexact Hw
        isplitl [HB]; · iexact HB
        iexact HO
      iintro ⟨HB, HO⟩
      iapply (wp_recvStep m ρ c t 3 s) $$ HD; iintro HD
      iapply (wp_recvStep m ρ c t 5 s) $$ HE; iintro HE
      iapply (wp_recvStep m ρ c t 6 s) $$ HB; iintro HB
      unfold outDone
      icases HU with ⟨%f, %hf, HU⟩
      iapply (wp_load 𝒱₀ (c : Thread nD τ) none Set.univ (m := oM) (Finset.subset_univ _)) $$ HU; iintro HU
      iapply (wp_store 𝒱₀ (c : Thread nD τ) none Set.univ (m := oM) (r := outR t s) (Mk := Finset.univ) (Finset.subset_univ _)) $$ HU; iintro HU
      iapply Hk
      isplitl [HD HE HB]
      · isplitl [HD]; · iexact HD
        isplitl [HE]; · iexact HE
        iexact HB
      isplitr [HO]
      · iexists _; isplitr
        rotate_left
        · iexact HU
        · ipureintro
          exact fun t' s' h => out_step m ρ c t _ s f hf t' s' (by
            rcases h with h | ⟨h1, h2⟩
            · exact .inl (.inl h)
            · rcases Nat.lt_succ_iff_lt_or_eq.mp h2 with h2 | h2
              · exact .inl (.inr ⟨h1, h2⟩)
              · exact .inr ⟨h1, Fin.ext h2⟩)
      iexact HO)) $$ [HA HB HC HU HO]
  · isplitr; · iexact Hw
    isplitr [HU HO]
    · rw [four_sep, four_sep]
      isplitl [HA]; · iexact HA
      isplitl [HB]; · iexact HB
      iexact HC
    isplitl [HU]
    · iapply (outDone_congr m ρ c (D := D) (fun t s h => h.resolve_right (fun h => Nat.not_lt_zero _ h.2))); iexact HU
    iexact HO
  rw [four_sep, four_sep]
  iintro ⟨⟨HA, HB, HC⟩, HU, HO⟩
  iapply Hk
  isplitl [Hb]; · iexact Hb
  isplitl [HA]; · iexact HA
  isplitl [HB]; · iexact HB
  isplitl [HC]; · iexact HC
  isplitl [HU]
  · iapply (outDone_congr m ρ c (D' := fun t' s' => D t' s' ∨ t' = t) (fun t' s' h => h.imp_right (fun h : t' = t => (⟨h, s'.isLt⟩ : t' = t ∧ s'.val < 4)))); iexact HU
  iexact HO

end Blocks

end Cert.Exchange

end
-- ==== Proof.K.Rounds.lean ====
/-
# The whole exchange

The sixteen blocks in the order the program runs them.
-/
module

public import proofs.«01_k».proof.Proof.K.Blocks

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A thing for each slot and quarter, stream by stream. -/
def allSlots (Φ : Bool → Fin 7 → Fin 4 → sProp 𝕄) : sProp 𝕄 :=
  iprop((four (Φ false 0) ∗ four (Φ false 1) ∗ four (Φ false 2) ∗ four (Φ false 3) ∗ four (Φ false 4) ∗ four (Φ false 5) ∗ four (Φ false 6))
    ∗ (four (Φ true 0) ∗ four (Φ true 1) ∗ four (Φ true 2) ∗ four (Φ true 3) ∗ four (Φ true 4) ∗ four (Φ true 5) ∗ four (Φ true 6)))

omit [FloatOps F] in
theorem four_eq (Φ : Fin 4 → sProp 𝕄) : bigSep Finset.univ Φ = four Φ := bigSep_univ_eq_bigSepL [0, 1, 2, 3] (by decide) (by decide) Φ

omit [FloatOps F] in
/-- That is one for each transfer. -/
theorem allSlots_eq (Φ : Bool → Fin 7 → Fin 4 → sProp 𝕄) : allSlots Φ = bigSep Finset.univ fun j : JJ => Φ j.1 j.2.1 j.2.2 := by
  rw [bigSep_univ_prod, bigSep_univ_eq_bigSepL [false, true] (by decide) (by decide), bigSepL_cons_cons, bigSepL_singleton]
  simp only [bigSep_univ_prod, four_eq]
  rw [bigSep_univ_eq_bigSepL [0, 1, 2, 3, 4, 5, 6] (by decide) (by decide), bigSep_univ_eq_bigSepL [0, 1, 2, 3, 4, 5, 6] (by decide) (by decide)]
  simp only [bigSepL_cons_cons, bigSepL_singleton]
  rfl

/-- The two scales in their staging buffers. -/
def scales (c : Dev nD) : sProp 𝕄 :=
  iprop((sxM.view.loc (c : Thread nD τ) ↦{fullShare} sxstg m ρ c) ∗ (swM.view.loc (c : Thread nD τ) ↦{fullShare} swstg m ρ c))

/-- The exchange, from every slot before its transfer to every slot after it and the whole result written. -/
theorem wp_rounds (K : Dev nD × Option XI → ℕ) (c : Dev nD) {Q : PUnit → sProp 𝕄} :
    iprop(world m ρ K ∗ bufs m ρ c ∗ scales m ρ c ∗ allSlots (before c) ∗ outDone m ρ c (fun _ _ => False) ∗ ow c allL)
      ⊢ iprop(((bufs m ρ c ∗ scales m ρ c ∗ allSlots (after m ρ c) ∗ outDone m ρ c (fun _ _ => True) ∗ ow c []) -∗ |={Set.univ}=> Q ⟨⟩)
          -∗ WP c (rounds sxM swM oM xbM wbM sbM rbM sbM_whole rbM_whole (semA false) (semA true) (offP c) (offP_inb c) (nbP c)) Q) := by
  unfold rounds tailD allSlots allL laterL scales
  simp only [smemLoad, smemLoadElt, Prog.bind_op, Prog.bind_ret]
  iintro ⟨#Hw, Hb, ⟨Hsx, Hsw⟩, ⟨⟨Ha0, Ha1, Ha2, Ha3, Ha4, Ha5, Ha6⟩, Hb0, Hb1, Hb2, Hb3, Hb4, Hb5, Hb6⟩, HU, HO⟩ Hk
  iapply (wp_blockA m ρ K c false 0 (by decide) _) $$ [Hb Ha0 HO]
  · isplitr; · iexact Hw
    isplitl [Hb]; · iexact Hb
    isplitl [Ha0]; · iexact Ha0
    iexact HO
  iintro ⟨Hb, Ha0, HO⟩
  iapply (wp_blockA m ρ K c true 0 (by decide) _) $$ [Hb Hb0 HO]
  · isplitr; · iexact Hw
    isplitl [Hb]; · iexact Hb
    isplitl [Hb0]; · iexact Hb0
    iexact HO
  iintro ⟨Hb, Hb0, HO⟩
  iapply (wp_blockA m ρ K c false 1 (by decide) _) $$ [Hb Ha1 HO]
  · isplitr; · iexact Hw
    isplitl [Hb]; · iexact Hb
    isplitl [Ha1]; · iexact Ha1
    iexact HO
  iintro ⟨Hb, Ha1, HO⟩
  iapply (wp_blockA m ρ K c true 1 (by decide) _) $$ [Hb Hb1 HO]
  · isplitr; · iexact Hw
    isplitl [Hb]; · iexact Hb
    isplitl [Hb1]; · iexact Hb1
    iexact HO
  iintro ⟨Hb, Hb1, HO⟩
  iapply (wp_blockA m ρ K c false 2 (by decide) _) $$ [Hb Ha2 HO]
  · isplitr; · iexact Hw
    isplitl [Hb]; · iexact Hb
    isplitl [Ha2]; · iexact Ha2
    iexact HO
  iintro ⟨Hb, Ha2, HO⟩
  iapply (wp_blockA m ρ K c true 2 (by decide) _) $$ [Hb Hb2 HO]
  · isplitr; · iexact Hw
    isplitl [Hb]; · iexact Hb
    isplitl [Hb2]; · iexact Hb2
    iexact HO
  iintro ⟨Hb, Hb2, HO⟩
  iapply (wp_blockA m ρ K c false 3 (by decide) _) $$ [Hb Ha3 HO]
  · isplitr; · iexact Hw
    isplitl [Hb]; · iexact Hb
    isplitl [Ha3]; · iexact Ha3
    iexact HO
  iintro ⟨Hb, Ha3, HO⟩
  iapply (wp_blockA m ρ K c true 3 (by decide) _) $$ [Hb Hb3 HO]
  · isplitr; · iexact Hw
    isplitl [Hb]; · iexact Hb
    isplitl [Hb3]; · iexact Hb3
    iexact HO
  iintro ⟨Hb, Hb3, HO⟩
  iapply (wp_blockB m ρ K c false 0 4 (by decide) (sent_4 m ρ c false) (quad true 4 <| quad false 5 <| quad true 5 <| quad false 6 <| quad true 6 []) (by decide)) $$ [Hb Ha0 Ha4 HO]
  · isplitr; · iexact Hw
    isplitl [Hb]; · iexact Hb
    isplitl [Ha0]; · iexact Ha0
    isplitl [Ha4]; · iexact Ha4
    iexact HO
  iintro ⟨Hb, Ha0, Ha4, HO⟩
  iapply (wp_blockB m ρ K c true 0 4 (by decide) (sent_4 m ρ c true) (quad false 5 <| quad true 5 <| quad false 6 <| quad true 6 []) (by decide)) $$ [Hb Hb0 Hb4 HO]
  · isplitr; · iexact Hw
    isplitl [Hb]; · iexact Hb
    isplitl [Hb0]; · iexact Hb0
    isplitl [Hb4]; · iexact Hb4
    iexact HO
  iintro ⟨Hb, Hb0, Hb4, HO⟩
  iapply (wp_blockB m ρ K c false 1 5 (by decide) (sent_5 m ρ c false) (quad true 5 <| quad false 6 <| quad true 6 []) (by decide)) $$ [Hb Ha1 Ha5 HO]
  · isplitr; · iexact Hw
    isplitl [Hb]; · iexact Hb
    isplitl [Ha1]; · iexact Ha1
    isplitl [Ha5]; · iexact Ha5
    iexact HO
  iintro ⟨Hb, Ha1, Ha5, HO⟩
  iapply (wp_blockB m ρ K c true 1 5 (by decide) (sent_5 m ρ c true) (quad false 6 <| quad true 6 []) (by decide)) $$ [Hb Hb1 Hb5 HO]
  · isplitr; · iexact Hw
    isplitl [Hb]; · iexact Hb
    isplitl [Hb1]; · iexact Hb1
    isplitl [Hb5]; · iexact Hb5
    iexact HO
  iintro ⟨Hb, Hb1, Hb5, HO⟩
  iapply (wp_blockC m ρ K c false (quad true 6 []) (by decide)) $$ [Hb Ha2 Ha4 Ha6 HO]
  · isplitr; · iexact Hw
    isplitl [Hb]; · iexact Hb
    isplitl [Ha2]; · iexact Ha2
    isplitl [Ha4]; · iexact Ha4
    isplitl [Ha6]; · iexact Ha6
    iexact HO
  iintro ⟨Hb, Ha2, Ha4, Ha6, HO⟩
  iapply (wp_blockC m ρ K c true [] (by decide)) $$ [Hb Hb2 Hb4 Hb6 HO]
  · isplitr; · iexact Hw
    isplitl [Hb]; · iexact Hb
    isplitl [Hb2]; · iexact Hb2
    isplitl [Hb4]; · iexact Hb4
    isplitl [Hb6]; · iexact Hb6
    iexact HO
  iintro ⟨Hb, Hb2, Hb4, Hb6, HO⟩
  iapply (wp_load_rect 𝒱₀ (c : Thread nD τ) none Set.univ (m := sxM) (r := oneR) (Finset.subset_univ _)) $$ Hsx; iintro Hsx
  iapply (wp_load_rect 𝒱₀ (c : Thread nD τ) none Set.univ (m := swM) (r := oneR) (Finset.subset_univ _)) $$ Hsw; iintro Hsw
  iapply (wp_blockD m ρ K c false _) $$ [Hb Ha3 Ha5 Ha6 HU HO]
  · isplitr; · iexact Hw
    isplitl [Hb]; · iexact Hb
    isplitl [Ha3]; · iexact Ha3
    isplitl [Ha5]; · iexact Ha5
    isplitl [Ha6]; · iexact Ha6
    isplitl [HU]; · iexact HU
    iexact HO
  iintro ⟨Hb, Ha3, Ha5, Ha6, HU, HO⟩
  iapply (wp_blockD m ρ K c true _) $$ [Hb Hb3 Hb5 Hb6 HU HO]
  · isplitr; · iexact Hw
    isplitl [Hb]; · iexact Hb
    isplitl [Hb3]; · iexact Hb3
    isplitl [Hb5]; · iexact Hb5
    isplitl [Hb6]; · iexact Hb6
    isplitl [HU]; · iexact HU
    iexact HO
  iintro ⟨Hb, Hb3, Hb5, Hb6, HU, HO⟩
  iapply (show (iprop(|={Set.univ}=> Q ⟨⟩) : sProp 𝕄) ⊢ WP c (.ret ⟨⟩) Q from Entails.of_eq (wp_ret _ _ _ _ _).symm)
  iapply Hk
  isplitl [Hb]; · iexact Hb
  isplitl [Hsx Hsw]
  · isplitl [Hsx]; · iexact Hsx
    iexact Hsw
  isplitr [HU HO]
  · isplitl [Ha0 Ha1 Ha2 Ha3 Ha4 Ha5 Ha6]
    · isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iexact Ha6
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexact Hb6
  isplitl [HU]
  · iapply (outDone_congr m ρ c (D := fun t' s' => (False ∨ t' = false) ∨ t' = true) (D' := fun _ _ => True) (fun t' s' _ => by cases t'; exacts [.inl (.inr rfl), .inr rfl])); iexact HU
  iexact HO

end Cert.Exchange

end
-- ==== Proof.K.Open.lean ====
/-
# The opening

The exchange buffers cut into their slots and joined again, the receive slots dealt to the partners, and the
opening of the kernel: the casts, the handshake, and what the handshake hands over.
-/
module

public import proofs.«01_k».proof.Proof.K.Rounds

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A buffer and its slots -/

section Slots
variable (b : Memref sig .tc .vmem S7x4x512x256 .bf16) (c : Dev nD)

theorem slotAny_intro (k : Fin 7) (s : Fin 4) (f : Buf (Elt F) (b.view.loc (c : Thread nD τ))) :
    (b.view.loc (c : Thread nD τ) ↦[(slotM b k s).view.set]{fullShare} f : sProp 𝕄) ⊢ slotAny b c k s := by
  unfold slotAny slotAt
  iintro H; iexists f; iexact H

theorem slot_set (k : Fin 7) (s : Fin 4) : (slotM b k s).view.set = (b.view.slice (slotR k s)).set := View.set_reshape _ _

/-- Different slots share no element. -/
theorem slot_disj (i j : Fin 7 × Fin 4) (h : i ≠ j) : Disjoint (slotM b i.1 i.2).view.set (slotM b j.1 j.2).view.set := by
  rw [slot_set, slot_set]
  by_cases hk : i.1 = j.1
  · have hs : i.2.val ≠ j.2.val := fun e => h (Prod.ext hk (Fin.ext e))
    exact View.disjoint_slice_of_sep b.view _ _ 1 rfl rfl (show i.2.val + 1 ≤ j.2.val ∨ j.2.val + 1 ≤ i.2.val by omega)
  · have hs : i.1.val ≠ j.1.val := fun e => hk (Fin.ext e)
    exact View.disjoint_slice_of_sep b.view _ _ 0 rfl rfl (show i.1.val + 1 ≤ j.1.val ∨ j.1.val + 1 ≤ i.1.val by omega)

/-- The slots are all of the buffer. -/
theorem slot_union : (Finset.univ : Finset (Fin 7 × Fin 4)).biUnion (fun j => (slotM b j.1 j.2).view.set) = b.view.set := by
  ext i
  simp only [Finset.mem_biUnion, Finset.mem_univ, true_and]
  constructor
  · rintro ⟨j, hj⟩
    rw [slot_set] at hj
    exact View.set_slice_subset _ _ hj
  · intro hi
    obtain ⟨y, -, rfl⟩ := Finset.mem_map.mp hi
    refine ⟨(y 0, y 1), ?_⟩
    rw [slot_set, View.set_slice]
    refine Finset.mem_map_of_mem _ (Rect.mem_set_unit.mpr fun a => ?_)
    have h2 := (y 2).isLt
    have h3 := (y 3).isLt
    fin_cases a
    · exact ⟨le_rfl, Nat.lt_succ_self _⟩
    · exact ⟨le_rfl, Nat.lt_succ_self _⟩
    · exact ⟨Nat.zero_le _, by show (y 2).val < 0 + 512; rw [Nat.zero_add]; exact h2⟩
    · exact ⟨Nat.zero_le _, by show (y 3).val < 0 + 256; rw [Nat.zero_add]; exact h3⟩

/-- A whole buffer is its slots; -/
theorem slots_split (hb : b.view.set = Finset.univ) :
    iprop(∃ f : Buf (Elt F) (b.view.loc (c : Thread nD τ)), b.view.loc (c : Thread nD τ) ↦{fullShare} f)
      ⊢ (bigSep Finset.univ fun j : Fin 7 × Fin 4 => slotAny b c j.1 j.2 : sProp 𝕄) := by
  iintro ⟨%f, H⟩
  iapply (show (b.view.loc (c : Thread nD τ) ↦[Finset.univ]{fullShare} f : sProp 𝕄) ⊢ bigSep Finset.univ fun j : Fin 7 × Fin 4 => slotAny b c j.1 j.2 from by
    rw [← hb, ← slot_union b, pointsTo_biUnion Finset.univ _ (fun i _ j _ h => slot_disj b i j h)]
    exact bigSep_mono fun j _ => slotAny_intro b c j.1 j.2 f)
  iexact H

/-- and its slots the whole buffer. -/
theorem slots_join (hb : b.view.set = Finset.univ) :
    (bigSep Finset.univ fun j : Fin 7 × Fin 4 => slotAny b c j.1 j.2 : sProp 𝕄)
      ⊢ iprop(∃ f : Buf (Elt F) (b.view.loc (c : Thread nD τ)), b.view.loc (c : Thread nD τ) ↦{fullShare} f) := by
  unfold slotAny slotAt
  iintro H
  ihave H := (BI.bigSep_exists_pi Finset.univ (fun (j : Fin 7 × Fin 4) (f : Buf (Elt F) (b.view.loc (c : Thread nD τ))) =>
    (b.view.loc (c : Thread nD τ) ↦[(slotM b j.1 j.2).view.set]{fullShare} f : sProp 𝕄))) $$ H
  icases H with ⟨%fs, H⟩
  ihave H := (pointsTo_biUnion_join Finset.univ (fun j : Fin 7 × Fin 4 => (slotM b j.1 j.2).view.set) fs (fs (0, 0)) (fun i _ j _ h => slot_disj b i j h)) $$ H
  icases H with ⟨%g, -, H⟩
  iexists g
  iapply (show _ ⊢ (b.view.loc (c : Thread nD τ) ↦[Finset.univ]{fullShare} g : sProp 𝕄) from Entails.of_eq (by rw [← hb, ← slot_union b]))
  iexact H

end Slots

theorem sb_set : ∀ t, (sbM t).view.set = Finset.univ
  | false => View.set_whole _
  | true => View.set_whole _
theorem rb_set : ∀ t, (rbM t).view.set = Finset.univ
  | false => View.set_whole _
  | true => View.set_whole _

/-- A buffer of either stream, any contents. -/
def wholeAny (b : Bool → Memref sig .tc .vmem S7x4x512x256 .bf16) (c : Dev nD) (t : Bool) : sProp 𝕄 :=
  iprop(∃ f : Buf (Elt F) ((b t).view.loc (c : Thread nD τ)), (b t).view.loc (c : Thread nD τ) ↦{fullShare} f)

theorem bigSep_bool (Φ : Bool → sProp 𝕄) : bigSep Finset.univ Φ = iprop(Φ false ∗ Φ true) :=
  bigSep_univ_eq_bigSepL [false, true] (by decide) (by decide) Φ

/-- Both streams' buffers are all their slots; -/
theorem both_split (b : Bool → Memref sig .tc .vmem S7x4x512x256 .bf16) (hb : ∀ t, (b t).view.set = Finset.univ) (c : Dev nD) :
    iprop(wholeAny b c false ∗ wholeAny b c true) ⊢ (bigSep Finset.univ fun j : JJ => slotAny (b j.1) c j.2.1 j.2.2 : sProp 𝕄) := by
  rw [bigSep_univ_prod, bigSep_bool]
  exact BIClass.sep_mono (slots_split (b false) c (hb false)) (slots_split (b true) c (hb true))
/-- and all their slots the buffers. -/
theorem both_join (b : Bool → Memref sig .tc .vmem S7x4x512x256 .bf16) (hb : ∀ t, (b t).view.set = Finset.univ) (c : Dev nD) :
    (bigSep Finset.univ fun j : JJ => slotAny (b j.1) c j.2.1 j.2.2 : sProp 𝕄) ⊢ iprop(wholeAny b c false ∗ wholeAny b c true) := by
  rw [bigSep_univ_prod, bigSep_bool]
  exact BIClass.sep_mono (slots_join (b false) c (hb false)) (slots_join (b true) c (hb true))

/-! ## The receive slots dealt to the partners -/

/-- A family over the transfers, by partner. -/
theorem by_partner (Φ : JJ → sProp 𝕄) :
    bigSep Finset.univ Φ = iprop((bigSep Finset.univ fun j : JJ => if mi j.1 j.2.1 = 0 then Φ j else iprop(emp))
      ∗ (bigSep Finset.univ fun j : JJ => if mi j.1 j.2.1 = 1 then Φ j else iprop(emp))
      ∗ bigSep Finset.univ fun j : JJ => if mi j.1 j.2.1 = 2 then Φ j else iprop(emp)) := by
  rw [← bigSep_sep', ← bigSep_sep']
  refine bigSep_congr fun j _ => ?_
  have h : ∀ i : Fin 3, Φ j = iprop((if i = 0 then Φ j else iprop(emp)) ∗ (if i = 1 then Φ j else iprop(emp)) ∗ if i = 2 then Φ j else iprop(emp)) := by
    have se : ∀ P : sProp 𝕄, iprop(P ∗ emp) = P := fun P => BI.equiv_iff.mp BI.sep_emp
    have es : ∀ P : sProp 𝕄, iprop(emp ∗ P) = P := fun P => BI.equiv_iff.mp BI.emp_sep
    intro i
    fin_cases i
    · show Φ j = iprop(Φ j ∗ emp ∗ emp)
      rw [se, se]
    · show Φ j = iprop(emp ∗ Φ j ∗ emp)
      rw [es, se]
    · show Φ j = iprop(emp ∗ emp ∗ Φ j)
      rw [es, es]
  exact h _

/-- What the three partners hand over is the receive slots of all transfers. -/
theorem pays_eq (c : Dev nD) :
    iprop(barPay c 0 ∗ barPay c 1 ∗ barPay c 2) = (bigSep Finset.univ fun j : JJ => slotAny (rbM j.1) (peer j.1 j.2.1 c) j.2.1 j.2.2 : sProp 𝕄) := by
  rw [by_partner]
  have h : ∀ i, (barPay c i : sProp 𝕄) = bigSep Finset.univ fun j : JJ => if mi j.1 j.2.1 = i then slotAny (rbM j.1) (peer j.1 j.2.1 c) j.2.1 j.2.2 else iprop(emp) := by
    intro i
    unfold barPay
    refine bigSep_congr fun j _ => ?_
    by_cases hi : mi j.1 j.2.1 = i
    · rw [if_pos hi, if_pos hi, peer, hi]
    · rw [if_neg hi, if_neg hi]
  rw [h, h, h]

/-- A device's own receive slots are what it hands its three partners. -/
theorem own_pays (c : Dev nD) :
    (bigSep Finset.univ fun j : JJ => slotAny (rbM j.1) c j.2.1 j.2.2 : sProp 𝕄) = iprop(barPay (par 0 c) 0 ∗ barPay (par 1 c) 1 ∗ barPay (par 2 c) 2) := by
  rw [by_partner]
  unfold barPay
  rw [par_par, par_par, par_par]

/-! ## The opening -/

theorem hz2 : (![0, 0] : Fin 2 → Nat) = fun _ => 0 := funext fun a => by fin_cases a <;> rfl

/-- A whole buffer read is its contents, and written is what was written. -/
theorem read_x (f : (cc0_stg0_0 : Ref sig .tc).ty.Contents (Elt F)) :
    xM.view.readAt (Elt F) (Rect.unit (s := S4096x512) ![0, 0] S4096x512.size inb_S4096x512_S4096x512_0_0).toLoadRect f = f :=
  Memref.readAt_unit_zero (Elt F) cc0_stg0_0 hz2 _ f
theorem read_w (f : (cc0_stg1_0 : Ref sig .tc).ty.Contents (Elt F)) :
    wM.view.readAt (Elt F) (Rect.unit (s := S512x2048) ![0, 0] S512x2048.size inb_S512x2048_S512x2048_0_0).toLoadRect f = f :=
  Memref.readAt_unit_zero (Elt F) cc0_stg1_0 hz2 _ f
theorem write_xb (f w : (cc0_scratch0 : Ref sig .tc).ty.Contents (Elt F)) :
    (xbM.access (Rect.unit (s := S4096x512) ![0, 0] S4096x512.size inb_S4096x512_S4096x512_0_0) : View sig .tc _ _ _).write (Elt F) f w Finset.univ = w :=
  Memref.write_access_unit_zero_univ (Elt F) cc0_scratch0 hz2 _ f w
theorem write_wb (f w : (cc0_scratch1 : Ref sig .tc).ty.Contents (Elt F)) :
    (wbM.access (Rect.unit (s := S512x2048) ![0, 0] S512x2048.size inb_S512x2048_S512x2048_0_0) : View sig .tc _ _ _).write (Elt F) f w Finset.univ = w :=
  Memref.write_access_unit_zero_univ (Elt F) cc0_scratch1 hz2 _ f w

/-- What the handshake needs: the position and credit of the own barrier, the duties of the partners'. -/
def hand (c : Dev nD) : sProp 𝕄 :=
  iprop(cred (tallyAt (barCell c) () 3) ∗ atPos ER (barCell c) 0 ∅ 0
    ∗ dutyTok ER (barCell (par 0 c)) 0 0 ∗ dutyTok ER (barCell (par 1 c)) 0 1 ∗ dutyTok ER (barCell (par 2 c)) 0 2)

/-- A signal to a partner: its duty is paid with what the partner gets. -/
theorem wp_signalStep (K : Dev nD × Option XI → ℕ) (c d : Dev nD) (i : Fin 3) (hd : d = par i c) (O O' : CellTallies nD τ sig Unit)
    (hO : O' = O + tallyAt (barCell (par i c)) () 1) (W : Waits sig Unit) {Q : PUnit → sProp 𝕄} {rest : PP F} :
    iprop(world m ρ K ∗ owes (c : Thread nD τ) O' W ∗ dutyTok ER (barCell (par i c)) 0 i ∗ barPay (par i c) i)
      ⊢ iprop((owes (c : Thread nD τ) O W -∗ WP c rest Q)
          -∗ WP c (semSignalWord d (SemArray.scalar (sig.barrier 0 rfl) : Sems sig S_).sem 1#32 >>= fun _ => rest) Q) := by
  subst hd
  simp only [semSignalWord, Prog.lift, Prog.bind_op, Prog.bind_ret, Prog.pure_eq_ret]
  unfold world
  iintro ⟨⟨#HR, -⟩, HO, Ht, Hp⟩ Hk
  iapply (Rounds.wp_signal 𝒱₀ ER (exRd m ρ) (c : Thread nD τ) none (dst := (par i c : Thread nD τ)) (κ := K (par i c, none))
      (d := i) (by rw [duties_bar]; exact Finset.mem_univ _) ((amount_bar m ρ (par i c) i).trans (by decide)) () O hO)
    $$ [HO Ht Hp]
  · isplitr; · iapply (inv_at m ρ K (par i c, none)); iexact HR
    isplitl [HO]; · iexact HO
    isplitl [Ht]; · iexact Ht
    isplitl [Hp]; · rw [payload_bar]; iexact Hp
    iapply (reached_at m ρ K (par i c, none)); iexact HR
  iexact Hk

/-- The opening: the arguments cast into the scratch buffers; after the handshake every partner's receive slots are
    the device's to send into, and its barrier is at zero. -/
theorem wp_opening (K : Dev nD × Option XI → ℕ) (c a b d : Dev nD) (ha : a = par 0 c) (hb : b = par 1 c) (hd : d = par 2 c)
    (f0 : Buf (Elt F) (xbM.view.loc (c : Thread nD τ))) (f1 : Buf (Elt F) (wbM.view.loc (c : Thread nD τ))) (W : Waits sig Unit)
    {Q : PUnit → sProp 𝕄} {rest : PP F} :
    iprop(world m ρ K ∗ (xM.view.loc (c : Thread nD τ) ↦{fullShare} xstg m ρ c) ∗ (wM.view.loc (c : Thread nD τ) ↦{fullShare} wstg m ρ c)
        ∗ (xbM.view.loc (c : Thread nD τ) ↦{fullShare} f0) ∗ (wbM.view.loc (c : Thread nD τ) ↦{fullShare} f1)
        ∗ hand c ∗ (bigSep Finset.univ fun j : JJ => slotAny (rbM j.1) c j.2.1 j.2.2) ∗ owes (c : Thread nD τ) (O₀ c) W)
      ⊢ iprop((((xM.view.loc (c : Thread nD τ) ↦{fullShare} xstg m ρ c) ∗ (wM.view.loc (c : Thread nD τ) ↦{fullShare} wstg m ρ c)
          ∗ bufs m ρ c ∗ semVal (barCell c) 0 ∗ (bigSep Finset.univ fun j : JJ => slotAny (rbM j.1) (peer j.1 j.2.1 c) j.2.1 j.2.2) ∗ ow c allL) -∗ WP c rest Q)
          -∗ WP c (opening xM wM xbM (Memref.isWhole_whole _) wbM (Memref.isWhole_whole _) a b d rest) Q) := by
  unfold opening hand
  rw [own_pays]
  iintro ⟨#Hw, Hx, Hw8, Hxb, Hwb, ⟨Hcr, Hat, Ht0, Ht1, Ht2⟩, ⟨Hp0, Hp1, Hp2⟩, HO⟩ Hk
  iapply (wp_load 𝒱₀ (c : Thread nD τ) none Set.univ (m := xM) (Finset.subset_univ _)) $$ Hx; iintro Hx
  rw [read_x]
  iapply (wp_load 𝒱₀ (c : Thread nD τ) none Set.univ (m := xbM) (Finset.subset_univ _)) $$ Hxb; iintro Hxb
  iapply (wp_store 𝒱₀ (c : Thread nD τ) none Set.univ (m := xbM) (r := Rect.unit (s := S4096x512) ![0, 0] S4096x512.size inb_S4096x512_S4096x512_0_0) (Mk := Finset.univ) (Finset.subset_univ _)) $$ Hxb; iintro Hxb
  rw [write_xb]
  iapply (wp_load 𝒱₀ (c : Thread nD τ) none Set.univ (m := wM) (Finset.subset_univ _)) $$ Hw8; iintro Hw8
  rw [read_w]
  iapply (wp_load 𝒱₀ (c : Thread nD τ) none Set.univ (m := wbM) (Finset.subset_univ _)) $$ Hwb; iintro Hwb
  iapply (wp_store 𝒱₀ (c : Thread nD τ) none Set.univ (m := wbM) (r := Rect.unit (s := S512x2048) ![0, 0] S512x2048.size inb_S512x2048_S512x2048_0_0) (Mk := Finset.univ) (Finset.subset_univ _)) $$ Hwb; iintro Hwb
  rw [write_wb]
  iapply (wp_signalStep m ρ K c a 0 ha (O₁ c) (O₀ c) rfl W) $$ [HO Ht0 Hp0]
  · isplitr; · iexact Hw
    isplitl [HO]; · iexact HO
    isplitl [Ht0]; · iexact Ht0
    iexact Hp0
  iintro HO
  iapply (wp_signalStep m ρ K c b 1 hb (O₂ c) (O₁ c) rfl W) $$ [HO Ht1 Hp1]
  · isplitr; · iexact Hw
    isplitl [HO]; · iexact HO
    isplitl [Ht1]; · iexact Ht1
    iexact Hp1
  iintro HO
  iapply (wp_signalStep m ρ K c d 2 hd (owesOn c allL) (O₂ c) rfl W) $$ [HO Ht2 Hp2]
  · isplitr; · iexact Hw
    isplitl [HO]; · iexact HO
    isplitl [Ht2]; · iexact Ht2
    iexact Hp2
  iintro HO
  simp only [semWaitWord, Prog.lift, Prog.bind_op, Prog.bind_ret, Prog.pure_eq_ret]
  unfold world
  icases Hw with ⟨#HR, #Hlev⟩
  iapply (Rounds.wp_wait_rest_token 𝒱₀ ER (exRd m ρ) (c : Thread nD τ) none (κ := K (c, none))
      (wpE_semWait_eq 𝒱₀ (c : Thread nD τ) none Set.univ) (Set.mem_univ _) () (O := owesOn c allL) (W := W) (R := 0) (m := 0) (T := ∅)
      (by rw [expect_bar]; decide)) $$ [Hcr HO Hat]
  · isplitr; · iapply (inv_at m ρ K (c, none)); iexact HR
    isplitl [Hcr]; · iexact Hcr
    isplitl [HO]; · iexact HO
    isplitr; · iapply (mayWait_on c (.reg barS) 1 (le_of_eq (lv_bar c ())) allL (fun j _ => rank_pos j.2.1)); iexact Hlev
    iexact Hat
  iintro ⟨HO, Hat, -, Hpay⟩
  ihave Hp := (Entails.of_eq ((rest_bar m ρ c).trans (pays_eq c))) $$ Hpay
  imod (Rounds.cell_close ER (exRd m ρ) (Set.mem_univ (K (c, none))) (fun h => h) (R := 0 + 1) (duties_later m ρ (barCell c))) $$ [Hat] with Hz
  · isplitr; · iapply (inv_at m ρ K (c, none)); iexact HR
    iexact Hat
  iapply Hk
  isplitl [Hx]; · iexact Hx
  isplitl [Hw8]; · iexact Hw8
  isplitl [Hxb Hwb]
  · unfold bufs xbv wbv
    isplitl [Hxb]; · iexact Hxb
    iexact Hwb
  isplitl [Hz]; · iexact Hz
  isplitl [Hp]; · iexact Hp
  unfold ow; iexists _; iexact HO

end Cert.Exchange

end
-- ==== Proof.K.Point.lean ====
/-
# The body of the kernel

The proof data of the one grid point, and the printed body from its precondition to its postcondition.
-/
module

public import proofs.«01_k».proof.Proof.K.Open

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result's contents -/

/-- Where an element of the result lies in its quarter. -/
def inQuarter (i : S512x2048.Idx) : S512x256.Idx := fun a => match a with
  | ⟨0, _⟩ => ⟨(i 0).val, (i 0).isLt⟩
  | ⟨1, _⟩ => ⟨(i 1).val % 256, Nat.mod_lt _ (by decide)⟩

/-- The result on device `c`, quarter by quarter. -/
def outAt (c : Dev nD) : (cc0_stg4_0 : Ref sig .tc).ty.Contents (Elt F) := fun (i : S512x2048.Idx) =>
  outQ m ρ c (decide (1024 ≤ (i 1).val)) ⟨(i 1).val / 256 % 4, Nat.mod_lt _ (by decide)⟩ (inQuarter i)

theorem outAt_unique (c : Dev nD) (f : (cc0_stg4_0 : Ref sig .tc).ty.Contents (Elt F))
    (hf : ∀ t s, True → (oM.view.slice (outR t s)).read (Elt F) f = outQ m ρ c t s) : f = outAt m ρ c := by
  funext i
  unfold outAt
  rw [← hf _ _ trivial]
  show f i = f ((outR _ _).emb (inQuarter i))
  congr 1
  funext a
  apply Fin.ext
  have h1 : (i 1).val < 2048 := (i 1).isLt
  fin_cases a
  · show (i 0).val = 0 + 1 * (i 0).val
    omega
  · show (i 1).val = (pick 0 1024 (decide (1024 ≤ (i 1).val)) + 256 * ((i 1).val / 256 % 4)) + 1 * ((i 1).val % 256)
    by_cases h : 1024 ≤ (i 1).val
    · rw [decide_eq_true h]; show (i 1).val = (1024 + 256 * ((i 1).val / 256 % 4)) + 1 * ((i 1).val % 256); omega
    · rw [decide_eq_false h]; show (i 1).val = (0 + 256 * ((i 1).val / 256 % 4)) + 1 * ((i 1).val % 256); omega

/-! ## What a device starts from and ends with -/

/-- The duties a device pays for a slot, and its positions at the slot's semaphores. -/
def slotToks (c : Dev nD) (j : JJ) : sProp 𝕄 :=
  iprop(dutyTok ER (sCell c j.1 j.2.1 j.2.2) 0 0 ∗ dutyTok ER (rCell (peer j.1 j.2.1 c) j.1 j.2.1 j.2.2) 0 0
    ∗ atPos ER (sCell c j.1 j.2.1 j.2.2) 0 ∅ 0 ∗ atPos ER (rCell c j.1 j.2.1 j.2.2) 0 ∅ 0)
/-- The duties it pays its partners' barriers. -/
def barToks (c : Dev nD) : sProp 𝕄 :=
  iprop(dutyTok ER (barCell (par 0 c)) 0 0 ∗ dutyTok ER (barCell (par 1 c)) 0 1 ∗ dutyTok ER (barCell (par 2 c)) 0 2)

/-- Everything of the rounds that device `c` starts from. -/
def ghost (K : Dev nD × Option XI → ℕ) (c : Dev nD) : sProp 𝕄 :=
  iprop(records m ρ K ∗ atPos ER (barCell c) 0 ∅ 0 ∗ barToks c ∗ bigSep Finset.univ fun j : JJ => slotToks c j)

/-- With the credits of its waits and the levels. -/
def start (c : Dev nD) : sProp 𝕄 :=
  iprop((∃ K, ghost m ρ K c) ∗ cred (tallyAt (barCell c) () 3) ∗ (bigSep Finset.univ fun j : JJ => cred (tallyAt (rCell c j.1 j.2.1 j.2.2) () N)) ∗ levAts L lv)

/-- The scratch buffers, any contents. -/
def scr (c : Dev nD) : sProp 𝕄 :=
  iprop((∃ f : Buf (Elt F) (xbM.view.loc (c : Thread nD τ)), xbM.view.loc (c : Thread nD τ) ↦{fullShare} f)
    ∗ (∃ f : Buf (Elt F) (wbM.view.loc (c : Thread nD τ)), wbM.view.loc (c : Thread nD τ) ↦{fullShare} f)
    ∗ wholeAny sbM c false ∗ wholeAny rbM c false ∗ wholeAny sbM c true ∗ wholeAny rbM c true)

def Φ₀ (c : Dev nD) : sProp 𝕄 := iprop(start m ρ c ∗ scr c)
/-- At the end every semaphore is at zero. -/
def Φ₁ (c : Dev nD) : sProp 𝕄 :=
  iprop(scr c ∗ (bigSep Finset.univ fun j : JJ => iprop(semVal (sCell c j.1 j.2.1 j.2.2) 0 ∗ semVal (rCell c j.1 j.2.1 j.2.2) 0)) ∗ semVal (barCell c) 0)

/-- The proof data of the call: the arguments stay, the result ends at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => sxstg m ρ c
    | ⟨3, _⟩ => swstg m ρ c
    | ⟨4, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_in (w : Fin 5) (hw : w ≠ 4) (t : Fin cfg0.N) : (cfg0.win w).fetch t = true := by
  rw [fin_N0 t]; revert hw; revert w; decide

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_elim (c : Dev nD) (b : Ref sig .tc) (X : b.ty.Contents (Elt F)) : stg c b X ⊢ (((c : Thread nD τ).loc b) ↦{fullShare} X : sProp 𝕄) := by
  iintro ⟨%f, %h, H⟩; subst h; iexact H
theorem stg_intro (c : Dev nD) (b : Ref sig .tc) (X : b.ty.Contents (Elt F)) : (((c : Thread nD τ).loc b) ↦{fullShare} X : sProp 𝕄) ⊢ stg c b X := by
  iintro H; iexists X; isplitr; · (ipureintro; rfl)
  iexact H

/-- The slots, their duties and their credits make every slot ready. -/
theorem ready (c : Dev nD) :
    iprop((bigSep Finset.univ fun j : JJ => slotAny (rbM j.1) (peer j.1 j.2.1 c) j.2.1 j.2.2) ∗ (bigSep Finset.univ fun j : JJ => slotAny (sbM j.1) c j.2.1 j.2.2)
        ∗ (bigSep Finset.univ fun j : JJ => slotToks c j) ∗ bigSep Finset.univ fun j : JJ => cred (tallyAt (rCell c j.1 j.2.1 j.2.2) () N))
      ⊢ (allSlots (before c) : sProp 𝕄) := by
  rw [allSlots_eq, ← bigSep_sep', ← bigSep_sep', ← bigSep_sep']
  refine bigSep_mono fun j _ => ?_
  show _ ⊢ before c j.1 j.2.1 j.2.2
  unfold before wt slotToks
  iintro ⟨Hr, Hs, ⟨Ht1, Ht2, Ha1, Ha2⟩, Hc⟩
  isplitl [Hr]; · iexact Hr
  isplitl [Hs]; · iexact Hs
  isplitl [Ht1]; · iexact Ht1
  isplitl [Ht2]; · iexact Ht2
  isplitl [Hc]; · iexact Hc
  isplitl [Ha1]; · iexact Ha1
  iexact Ha2

/-- Every slot done gives the slots and the semaphores at zero. -/
theorem finished (c : Dev nD) :
    allSlots (after m ρ c) ⊢ (iprop((bigSep Finset.univ fun j : JJ => slotAny (sbM j.1) c j.2.1 j.2.2) ∗ (bigSep Finset.univ fun j : JJ => slotAny (rbM j.1) c j.2.1 j.2.2)
        ∗ bigSep Finset.univ fun j : JJ => iprop(semVal (sCell c j.1 j.2.1 j.2.2) 0 ∗ semVal (rCell c j.1 j.2.1 j.2.2) 0)) : sProp 𝕄) := by
  rw [allSlots_eq, ← bigSep_sep', ← bigSep_sep']
  refine bigSep_mono fun j _ => ?_
  show after m ρ c j.1 j.2.1 j.2.2 ⊢ _
  unfold after
  iintro ⟨Hs, Hr, Hz1, Hz2⟩
  isplitl [Hs]; · iexact Hs
  isplitl [Hr]
  · iapply (slotIs_any (rbM j.1) c j.2.1 j.2.2 (got m ρ c j.1 j.2.1 j.2.2)); iexact Hr
  isplitl [Hz1]; · iexact Hz1
  iexact Hz2

/-! ## The body -/

def bodyPre (c : Dev nD) : sProp 𝕄 :=
  iprop(Φ₀ m ρ c ∗ (dats m ρ 0 c).owesAt () t0_0.castSucc
    ∗ (∃ d, stg c cc0_stg0_0 ((dats m ρ 0 c).before (0 : Fin 5) t0_0 d)) ∗ (∃ d, stg c cc0_stg1_0 ((dats m ρ 0 c).before (1 : Fin 5) t0_0 d))
    ∗ (∃ d, stg c cc0_stg2_0 ((dats m ρ 0 c).before (2 : Fin 5) t0_0 d)) ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ c ∗ (dats m ρ 0 c).owesAt () t0_0.succ ∗ stg c cc0_stg0_0 (xstg m ρ c) ∗ stg c cc0_stg1_0 (wstg m ρ c)
    ∗ stg c cc0_stg2_0 (sxstg m ρ c) ∗ stg c cc0_stg3_0 (swstg m ρ c) ∗ stg c cc0_stg4_0 (outAt m ρ c))

/-- What is fetched is the staged argument. -/
theorem before_0 (c : Dev nD) (d) : (dats m ρ 0 c).before (0 : Fin 5) t0_0 d = xstg m ρ c := by
  unfold Dat.before; rw [if_pos (fetch_in 0 (by decide) t0_0)]; rfl
theorem before_1 (c : Dev nD) (d) : (dats m ρ 0 c).before (1 : Fin 5) t0_0 d = wstg m ρ c := by
  unfold Dat.before; rw [if_pos (fetch_in 1 (by decide) t0_0)]; rfl
theorem before_2 (c : Dev nD) (d) : (dats m ρ 0 c).before (2 : Fin 5) t0_0 d = sxstg m ρ c := by
  unfold Dat.before; rw [if_pos (fetch_in 2 (by decide) t0_0)]; rfl
theorem before_3 (c : Dev nD) (d) : (dats m ρ 0 c).before (3 : Fin 5) t0_0 d = swstg m ρ c := by
  unfold Dat.before; rw [if_pos (fetch_in 3 (by decide) t0_0)]; rfl

/-- The body, from what the device starts with to the result. -/
theorem sound_body (c : Dev nD) :
    bodyPre m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _)
        (Memref.whole cc0_stg4_0) (Memref.isWhole_whole _) (Memref.whole cc0_scratch0) (Memref.isWhole_whole _)
        (Memref.whole cc0_scratch1) (Memref.isWhole_whole _)
        (sbM false) (sbM_whole false) (rbM false) (rbM_whole false) (semA false false) (semA true false)
        (sbM true) (sbM_whole true) (rbM true) (rbM_whole true) (semA false true) (semA true true)) (fun _ => bodyPost m ρ c) := by
  rw [body_eq xM (Memref.isWhole_whole _) wM (Memref.isWhole_whole _) sxM (Memref.isWhole_whole _) swM (Memref.isWhole_whole _) oM (Memref.isWhole_whole _)
    xbM (Memref.isWhole_whole _) wbM (Memref.isWhole_whole _) sbM rbM sbM_whole rbM_whole (semA false) (semA true), wp_deviceId]
  unfold bodyPre Φ₀ start ghost barToks scr
  simp only [before_0, before_1, before_2, before_3]
  unfold Dat.owesAt Pipeline.owesWithin
  rw [show (dats m ρ 0 c).owed t0_0.castSucc = O₀ c from rfl]
  iintro ⟨⟨⟨⟨%K, #HR, HaB, HtB, Htk⟩, HcB, HcR, #Hlev⟩, ⟨%f0, Hxb⟩, ⟨%f1, Hwb⟩, Hs0, Hr0, Hs1, Hr1⟩, ⟨%W, %hW, HO⟩, ⟨%_, Hx⟩, ⟨%_, Hw⟩, ⟨%_, Hsx⟩, ⟨%_, Hsw⟩, ⟨%_, %fo, -, Ho⟩⟩
  ihave Hx := (stg_elim c cc0_stg0_0 (xstg m ρ c)) $$ Hx
  ihave Hw := (stg_elim c cc0_stg1_0 (wstg m ρ c)) $$ Hw
  ihave Hsx := (stg_elim c cc0_stg2_0 (sxstg m ρ c)) $$ Hsx
  ihave Hsw := (stg_elim c cc0_stg3_0 (swstg m ρ c)) $$ Hsw
  ihave Hr := (both_split rbM rb_set c) $$ [Hr0 Hr1]
  · isplitl [Hr0]; · iexact Hr0
    iexact Hr1
  ihave Hs := (both_split sbM sb_set c) $$ [Hs0 Hs1]
  · isplitl [Hs0]; · iexact Hs0
    iexact Hs1
  iapply (wp_opening m ρ K c _ _ _ (dev1_eq c) (dev2_eq c) (dev3_eq c) f0 f1 W) $$ [Hx Hw Hxb Hwb HcB HaB HtB Hr HO]
  · isplitr
    · unfold world; isplitr; · iexact HR
      iexact Hlev
    isplitl [Hx]; · iexact Hx
    isplitl [Hw]; · iexact Hw
    isplitl [Hxb]; · iexact Hxb
    isplitl [Hwb]; · iexact Hwb
    isplitl [HcB HaB HtB]
    · unfold hand
      isplitl [HcB]; · iexact HcB
      isplitl [HaB]; · iexact HaB
      iexact HtB
    isplitl [Hr]; · iexact Hr
    iexact HO
  iintro ⟨Hx, Hw, Hb, HzB, Hr, HO⟩
  ihave Hsl := (ready (F := F) c) $$ [Hr Hs Htk HcR]
  · isplitl [Hr]; · iexact Hr
    isplitl [Hs]; · iexact Hs
    isplitl [Htk]; · iexact Htk
    iexact HcR
  iapply (wp_rounds m ρ K c) $$ [Hb Hsx Hsw Hsl Ho HO]
  · isplitr
    · unfold world; isplitr; · iexact HR
      iexact Hlev
    isplitl [Hb]; · iexact Hb
    isplitl [Hsx Hsw]
    · unfold scales; isplitl [Hsx]; · iexact Hsx
      iexact Hsw
    isplitl [Hsl]; · iexact Hsl
    isplitl [Ho]
    · unfold outDone; iexists fo; isplitr; · (ipureintro; exact fun _ _ h => h.elim)
      iexact Ho
    iexact HO
  unfold scales bufs
  iintro ⟨⟨Hxb, Hwb⟩, ⟨Hsx, Hsw⟩, Hsl, Ho, HO⟩
  ihave Hf := (finished m ρ c) $$ Hsl
  icases Hf with ⟨Hs, Hr, Hz⟩
  ihave Hs := (both_join sbM sb_set c) $$ Hs
  ihave Hr := (both_join rbM rb_set c) $$ Hr
  icases Hs with ⟨Hs0, Hs1⟩
  icases Hr with ⟨Hr0, Hr1⟩
  imodintro
  unfold bodyPost Φ₁ scr ow Dat.owesAt Pipeline.owesWithin outDone
  rw [show (dats m ρ 0 c).owed t0_0.succ = 0 from rfl]
  isplitl [Hxb Hwb Hs0 Hr0 Hs1 Hr1 Hz HzB]
  · isplitl [Hxb Hwb Hs0 Hr0 Hs1 Hr1]
    · isplitl [Hxb]; · iexists _; iexact Hxb
      isplitl [Hwb]; · iexists _; iexact Hwb
      isplitl [Hs0]; · iexact Hs0
      isplitl [Hr0]; · iexact Hr0
      isplitl [Hs1]; · iexact Hs1
      iexact Hr1
    isplitl [Hz]; · iexact Hz
    iexact HzB
  isplitl [HO]
  · icases HO with ⟨%W', HO⟩
    iexists W'
    isplitr; · ipureintro; exact fun _ _ => Or.inl trivial
    iexact HO
  isplitl [Hx]; · iapply (stg_intro c cc0_stg0_0 (xstg m ρ c)); iexact Hx
  isplitl [Hw]; · iapply (stg_intro c cc0_stg1_0 (wstg m ρ c)); iexact Hw
  isplitl [Hsx]; · iapply (stg_intro c cc0_stg2_0 (sxstg m ρ c)); iexact Hsx
  isplitl [Hsw]; · iapply (stg_intro c cc0_stg3_0 (swstg m ρ c)); iexact Hsw
  icases Ho with ⟨%f, %hf, Ho⟩
  iexists f
  isplitr; · ipureintro; exact outAt_unique m ρ c f hf
  iexact Ho

set_option maxRecDepth 65536 in
/-- The obligation of the call's one grid point on device `c`. -/
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0]
  simp only [owns_whole_eq]
  exact sound_body m ρ c

end Cert.Exchange

end
-- ==== Proof.K.Launch.lean ====
/-
# The launch

The rounds' ghost state at launch, dealt to the devices; the credits of the waits; and the run of the whole program
on the eight devices.
-/
module

public import proofs.«01_k».proof.Proof.K.Point
public import Idealize.ShloMosaic.Lib.Pipeline.CollectiveSegs

@[expose] public section

set_option backward.proofsInPublic true

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores: the transfers'. -/
abbrev osem (i : XI) : SemLoc sig := .dma (xsem i)

theorem dec_stage : ∀ (w : Fin 5) (s : Fin (spec0 w).nbuf), dec ((spec0 w).sem s) = none := by decide +kernel

theorem ownSemFacts : Pipeline.OwnSemFacts cfg0.spec osem where
  isScoped := by decide +kernel
  inj i j h := xsem_injective (by injection h)
  disj i w s h := by
    have h' : xsem i = (spec0 w).sem s := by injection h
    have := dec_xsem i
    rw [h', dec_stage w s] at this
    exact absurd this (by simp)

theorem share_eq (c : Dev nD) (w : Fin cfg0.W) : (dats m ρ 0 c).share w = fullShare := by unfold Dat.share; split <;> rfl

theorem csem_injective : Function.Injective csem := by
  rintro (_ | i) (_ | j) h
  · rfl
  · cases h
  · cases h
  · exact congrArg some (xsem_injective (by injection h))
theorem kcell_injective : Function.Injective (kcell : Dev nD × Option XI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- Every semaphore of the exchange on every device. -/
def exCells : Finset (GSem nD τ sig) := Finset.univ.map ⟨kcell, kcell_injective⟩

/-- A device's own semaphores' duties: a barrier's three, a transfer's one. -/
abbrev tokOf (cj : Dev nD × (Fin 3 ⊕ XI)) : GSem nD τ sig × ℕ × Fin 3 := match cj.2 with
  | .inl i => (barCell cj.1, 0, i)
  | .inr x => (xCell cj.1 x, 0, 0)
theorem tokOf_injective : Function.Injective (tokOf : Dev nD × (Fin 3 ⊕ XI) → GSem nD τ sig × ℕ × Fin 3) := by
  rintro ⟨c, i | x⟩ ⟨c', i' | x'⟩ h
  · have h1 : c = c' := congrArg (fun g : GSem nD τ sig × ℕ × Fin 3 => g.1.1.1) h
    have h2 : i = i' := congrArg (fun g : GSem nD τ sig × ℕ × Fin 3 => g.2.2) h
    rw [h1, h2]
  · exact absurd (congrArg (fun g : GSem nD τ sig × ℕ × Fin 3 => g.1.2) h) (fun h' => by cases h')
  · exact absurd (congrArg (fun g : GSem nD τ sig × ℕ × Fin 3 => g.1.2) h) (fun h' => by cases h')
  · have h1 : c = c' := congrArg (fun g : GSem nD τ sig × ℕ × Fin 3 => g.1.1.1) h
    have h2 : (SemLoc.dma (xsem x) : SemLoc sig) = .dma (xsem x') := congrArg (fun g : GSem nD τ sig × ℕ × Fin 3 => g.1.2) h
    have h3 : x = x' := xsem_injective (by injection h2)
    rw [h1, h3]
def exToks : Finset (GSem nD τ sig × ℕ × Fin 3) := Finset.univ.map ⟨tokOf, tokOf_injective⟩

def u₀ : UU :=
  (initOf (Pipeline.cells cfgs cellOf_inj) (Pipeline.launchToks cfgs cellOf_inj), initOf exCells exToks)

/-- The duties of device `c`'s own semaphores. -/
def toks (c : Dev nD) : sProp 𝕄 :=
  iprop((bigSep Finset.univ fun i : Fin 3 => dutyTok ER (barCell c) 0 i) ∗ bigSep Finset.univ fun x : XI => dutyTok ER (xCell c x) 0 0)

/-- What the launch deals device `c`; -/
def G (c : Dev nD) : sProp 𝕄 :=
  iprop((bigSep Finset.univ fun k : Option XI => roundState ER (exRd m ρ) (kcell (c, k)) 0)
    ∗ (bigSep Finset.univ fun k : Option XI => iprop(atPos ER (kcell (c, k)) 0 ∅ 0 ∗ reached ER (kcell (c, k)) 0)) ∗ toks c)
/-- what it starts from once every semaphore has its invariant. -/
def G' (c : Dev nD) : sProp 𝕄 := iprop(∃ K, ghost m ρ K c)

theorem bigSep_option {I : Type} [Fintype I] [DecidableEq I] (Φ : Option I → sProp 𝕄) :
    bigSep Finset.univ Φ = iprop((bigSep Finset.univ fun i => Φ (some i)) ∗ Φ none) := by
  rw [bigSep_univ_equiv (Equiv.optionEquivSumPUnit.{0, 0} I).symm, bigSep_univ_sum, bigSep_univ_of_subsingleton PUnit.unit]
  rfl

theorem bigSep_three (Φ : Fin 3 → sProp 𝕄) : bigSep Finset.univ Φ = iprop(Φ 0 ∗ Φ 1 ∗ Φ 2) := bigSep_univ_eq_bigSepL [0, 1, 2] (by decide) (by decide) Φ

/-- A family over the transfers' semaphores is one over the transfers of each direction. -/
theorem bigSep_dir (Φ : XI → sProp 𝕄) :
    bigSep Finset.univ Φ = iprop((bigSep Finset.univ fun j : JJ => Φ (false, j)) ∗ bigSep Finset.univ fun j : JJ => Φ (true, j)) := by
  rw [bigSep_univ_prod, bigSep_bool]

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Option XI => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_univ_sum]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun i : XI => semVal (xCell c i) 0 := rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option XI => semVal (kcell (c, k)) 0 : sProp 𝕄) := by
  rw [ownSems0_eq, unscopedSems0_eq, bigSep_option]

/-- Every semaphore of a device gets its invariant. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option XI => semVal (kcell (c, k)) 0) ∗ bigSep Finset.univ fun k : Option XI => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The duties dealt to the devices that pay them -/

/-- The duties a device pays. -/
def payToks (c : Dev nD) : sProp 𝕄 :=
  iprop(barToks c ∗ (bigSep Finset.univ fun j : JJ => dutyTok ER (sCell c j.1 j.2.1 j.2.2) 0 0)
    ∗ bigSep Finset.univ fun j : JJ => dutyTok ER (rCell (peer j.1 j.2.1 c) j.1 j.2.1 j.2.2) 0 0)

/-- The partners' exchange on a slot, on the devices. -/
def peerEquiv (j : JJ) : Dev nD ≃ Dev nD := parEquiv (mi j.1 j.2.1)

theorem toks_around : (bigSep Finset.univ fun c : Dev nD => (toks c : sProp 𝕄)) ⊢ bigSep Finset.univ fun c : Dev nD => payToks c := by
  have hR : (bigSep Finset.univ fun c : Dev nD => bigSep Finset.univ fun j : JJ => (dutyTok ER (rCell c j.1 j.2.1 j.2.2) 0 0 : sProp 𝕄))
      = bigSep Finset.univ fun c : Dev nD => bigSep Finset.univ fun j : JJ => dutyTok ER (rCell (peer j.1 j.2.1 c) j.1 j.2.1 j.2.2) 0 0 := by
    rw [bigSep_univ_comm, bigSep_univ_comm (fun (c : Dev nD) (j : JJ) => (dutyTok ER (rCell (peer j.1 j.2.1 c) j.1 j.2.1 j.2.2) 0 0 : sProp 𝕄))]
    exact bigSep_congr fun j _ => bigSep_univ_equiv (peerEquiv j) (fun c : Dev nD => (dutyTok ER (rCell c j.1 j.2.1 j.2.2) 0 0 : sProp 𝕄))
  unfold toks payToks barToks
  simp only [bigSep_three, bigSep_dir, bigSep_sep']
  iintro ⟨⟨H0, H1, H2⟩, HS, HR⟩
  isplitl [H0 H1 H2]
  · isplitl [H0]
    · iapply (Entails.of_eq (bigSep_univ_equiv (parEquiv 0) (fun c : Dev nD => (dutyTok ER (barCell c) 0 0 : sProp 𝕄)))); iexact H0
    isplitl [H1]
    · iapply (Entails.of_eq (bigSep_univ_equiv (parEquiv 1) (fun c : Dev nD => (dutyTok ER (barCell c) 0 1 : sProp 𝕄)))); iexact H1
    iapply (Entails.of_eq (bigSep_univ_equiv (parEquiv 2) (fun c : Dev nD => (dutyTok ER (barCell c) 0 2 : sProp 𝕄)))); iexact H2
  isplitl [HS]; · iexact HS
  iapply (Entails.of_eq hR); iexact HR

theorem ghost_intro (K : Dev nD × Option XI → ℕ) (c : Dev nD) :
    iprop(records m ρ K ∗ (bigSep Finset.univ fun k : Option XI => atPos ER (kcell (c, k)) 0 ∅ 0) ∗ payToks c) ⊢ G' m ρ c := by
  unfold payToks G' ghost slotToks
  rw [bigSep_option, bigSep_dir]
  simp only [bigSep_sep']
  iintro ⟨#HI, ⟨⟨HaS, HaR⟩, HaB⟩, HtB, HtS, HtR⟩
  iexists K
  isplitr; · iexact HI
  isplitl [HaB]; · iexact HaB
  isplitl [HtB]; · iexact HtB
  isplitl [HtS]; · iexact HtS
  isplitl [HtR]; · iexact HtR
  isplitl [HaS]; · iexact HaS
  iexact HaR

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option XI => iprop(∃ κ : ℕ, cellInv ER (exRd m ρ) κ (kcell ck))),
    bigSep_congr (s := Finset.univ) (fun (c : Dev nD) _ => bigSep_sep' Finset.univ (fun k : Option XI => (atPos ER (kcell (c, k)) 0 ∅ 0 : sProp 𝕄)) (fun k => reached ER (kcell (c, k)) 0)),
    bigSep_sep', ← bigSep_univ_prod (fun ck : Dev nD × Option XI => (reached ER (kcell ck) 0 : sProp 𝕄))]
  iintro ⟨HI, ⟨Hat, #HR⟩, Htok⟩
  ihave HK := (BI.bigSep_exists_pi Finset.univ (fun (ck : Dev nD × Option XI) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Option XI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credits -/

theorem bar_ne_x (a b : Dev nD) (i : XI) : barCell a ≠ xCell b i := fun h => by cases congrArg Prod.snd h

/-- What `d` owes `c`'s barrier on account of its partner `i`. -/
theorem tally_bar (i : Fin 3) (d c : Dev nD) : (tallyAt (barCell (par i d)) () 1 : CellTallies nD τ sig Unit) (barCell c) () = if d = par i c then 1 else 0 := by
  rw [tallyAt_apply]
  by_cases h : d = par i c
  · subst h; rw [par_par, if_pos ⟨rfl, rfl⟩, if_pos rfl]
  · rw [if_neg h, if_neg]
    rintro ⟨h1, -⟩
    have h2 : c = par i d := congrArg (fun g : GSem nD τ sig => g.1.1) h1
    exact h (by rw [h2, par_par])

theorem owed_bar (d c : Dev nD) : O₀ d (barCell c) () = ((if d = par 2 c then 1 else 0) + (if d = par 1 c then 1 else 0)) + (if d = par 0 c then 1 else 0) := by
  have h : owesOn d allL (barCell c) () = 0 := by
    by_contra h
    obtain ⟨j, -, hj⟩ := owesOn_pos (Nat.pos_of_ne_zero h)
    exact bar_ne_x _ _ _ hj
  unfold O₀ O₁ O₂
  rw [Pi.add_apply, Finsupp.add_apply, Pi.add_apply, Finsupp.add_apply, Pi.add_apply, Finsupp.add_apply, h, tally_bar, tally_bar, tally_bar, Nat.zero_add]

theorem owesOn_r (d c : Dev nD) (j : JJ) : ∀ l : List JJ, l.Nodup →
    owesOn d l (rCell c j.1 j.2.1 j.2.2) () = if j ∈ l ∧ d = peer j.1 j.2.1 c then N else 0
  | [], _ => by rw [if_neg (fun h => List.not_mem_nil h.1)]; rfl
  | i :: l, hl => by
    rw [List.nodup_cons] at hl
    unfold owesOn
    rw [Pi.add_apply, Finsupp.add_apply, owesOn_r d c j l hl.2, tallyAt_apply]
    have key : (rCell c j.1 j.2.1 j.2.2 = rCell (peer i.1 i.2.1 d) i.1 i.2.1 i.2.2 ∧ () = ()) ↔ (j = i ∧ d = peer j.1 j.2.1 c) := by
      constructor
      · rintro ⟨h, -⟩
        have h1 : c = peer i.1 i.2.1 d := congrArg (fun g : GSem nD τ sig => g.1.1) h
        have h2 : (SemLoc.dma (xsem (true, j)) : SemLoc sig) = .dma (xsem (true, i)) := congrArg Prod.snd h
        have h3 : (true, j) = (true, i) := xsem_injective (by injection h2)
        have h4 : j = i := congrArg Prod.snd h3
        subst h4
        exact ⟨rfl, by rw [h1, peer_peer]⟩
      · rintro ⟨rfl, rfl⟩
        exact ⟨by rw [peer_peer], rfl⟩
    by_cases hk : j = i ∧ d = peer j.1 j.2.1 c
    · rw [if_pos (key.mpr hk), if_neg (fun h => hl.1 (hk.1 ▸ h.1)), if_pos ⟨hk.1 ▸ List.mem_cons_self, hk.2⟩, Nat.zero_add]
    · rw [if_neg (fun h => hk (key.mp h)), Nat.add_zero]
      by_cases hm : j ∈ l ∧ d = peer j.1 j.2.1 c
      · rw [if_pos hm, if_pos ⟨List.mem_cons_of_mem _ hm.1, hm.2⟩]
      · rw [if_neg hm, if_neg]
        rintro ⟨h1, h2⟩
        rcases List.mem_cons.mp h1 with h | h
        · exact hk ⟨h, h2⟩
        · exact hm ⟨h, h2⟩

theorem owed_r (d c : Dev nD) (j : JJ) : O₀ d (rCell c j.1 j.2.1 j.2.2) () = if d = peer j.1 j.2.1 c then N else 0 := by
  unfold O₀ O₁ O₂
  rw [Pi.add_apply, Finsupp.add_apply, Pi.add_apply, Finsupp.add_apply, Pi.add_apply, Finsupp.add_apply,
    tallyAt_ne_cell (fun h => bar_ne_x _ _ _ h.symm), tallyAt_ne_cell (fun h => bar_ne_x _ _ _ h.symm), tallyAt_ne_cell (fun h => bar_ne_x _ _ _ h.symm),
    Finsupp.zero_apply, Nat.add_zero, Nat.add_zero, Nat.add_zero, owesOn_r d c j allL allL_nodup]
  have hj : j ∈ allL := List.mem_toFinset.mp (allL_univ ▸ Finset.mem_univ j)
  by_cases h : d = peer j.1 j.2.1 c
  · rw [if_pos ⟨hj, h⟩, if_pos h]
  · rw [if_neg (fun h' => h h'.2), if_neg h]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (par 0 c) fun _ => 1, Finset.sum_ite_eq' Finset.univ (par 1 c) fun _ => 1, Finset.sum_ite_eq' Finset.univ (par 2 c) fun _ => 1,
    if_pos (Finset.mem_univ _), if_pos (Finset.mem_univ _), if_pos (Finset.mem_univ _)]

theorem launch_r (c : Dev nD) (j : JJ) :
    tallyOn (rCell c j.1 j.2.1 j.2.2) (launchCredit (Pipeline.owing O₀) 0 (rCell c j.1 j.2.1 j.2.2)) = (tallyAt (rCell c j.1 j.2.1 j.2.2) () N : CellTallies nD τ sig Unit) := by
  unfold tallyAt; refine congrArg _ (Finsupp.ext fun u => ?_); cases u
  rw [Pipeline.launchCredit_owing, Finsupp.single_eq_same, Finset.sum_congr rfl fun d _ => owed_r d c j, Finset.sum_ite_eq' Finset.univ (peer j.1 j.2.1 c) fun _ => N,
    if_pos (Finset.mem_univ _)]

/-- The semaphores on which transfers land. -/
def landing : JJ ↪ SemLoc sig := ⟨fun j => .dma (xsem (true, j)), fun i j h => congrArg Prod.snd (xsem_injective (show xsem (true, i) = xsem (true, j) by injection h))⟩

theorem creds (c : Dev nD) :
    (Pipeline.launchCred O₀ c : sProp 𝕄) ⊢ iprop(cred (tallyAt (barCell c) () 3) ∗ bigSep Finset.univ fun j : JJ => cred (tallyAt (rCell c j.1 j.2.1 j.2.2) () N)) := by
  unfold Pipeline.launchCred
  rw [bigSep_univ_at _ (SemLoc.reg barS), launch_bar]
  refine sep_mono_right ?_
  refine (bigSep_subset (t := Finset.univ.map landing) (fun x hx => ?_)).trans ?_
  · obtain ⟨j, -, rfl⟩ := Finset.mem_map.mp hx
    exact Finset.mem_erase.mpr ⟨(fun h => by cases h), Finset.mem_univ _⟩
  · rw [bigSep_map]
    exact bigSep_mono fun j _ => Entails.of_eq (congrArg cred (launch_r c j))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem scr_eq (c : Dev nD) : (Pipeline.scopedRest (Ix := Unit) (Name := ℕ) (U := UU) (Lvl := ℕ) (Val := Elt F) cfg0.spec c : sProp 𝕄) = scr c := by
  rw [scopedRest0_eq]; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scr_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scr_eq, ownSems0_eq, unscopedSems0_eq, bigSep_dir]
  unfold Φ₁
  simp only [bigSep_sep']
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (dec_stage w s) _ (match t with
      | ⟨0, _⟩ => Or.inl rfl
      | ⟨_ + 1, _⟩ => Or.inr rfl)

/-! ## The run -/

/-- The arrays at the end of the run. -/
def finalA (c : Dev nD) (w : Fin cfg0.W) : Buf (Elt F) ((cfg0.win w).arr.view.loc (c : Thread nD τ)) := (dats m ρ 0 c).arrAt w cfg0.N

/-- Every device's arrays end at them. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 65536 in
/-- From any memory with zero counters, for any float values, the program on eight devices terminates without fault,
    with every device's arrays at `finalA` and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they began. -/
theorem finalA_in (c : Dev nD) (w : Fin cfg0.W) (h : (cfg0.win w).isOut = false) : finalA m ρ c w = (s₀ m ρ).mem ((cfg0.win w).arr.view.loc (c : Thread nD τ)) :=
  (dats (F := F) m ρ 0 c).arrAt_in w h _

end Cert.Exchange

end
-- ==== Proof.K.Frames.lean ====
/-
# The frames

The run of the exchange leaves the arguments unchanged and every counter at zero: for the idealized program, and for
the program as printed, whose text is the same.
-/
module

public import proofs.«01_k».proof.Defs
public import proofs.«01_k».proof.Proof.Gen.Kernel
public import proofs.«01_k».proof.Proof.K.Launch

@[expose] public section

noncomputable section

namespace Cert.Exchange

open Idealize.ShloMosaic Idealize.SL.Sem

variable {F : FTy → Type} [FloatOps F]

/-- The run of the exchange leaves every device's arguments as they were. -/
theorem args_kept (m : (ℓ : Loc KernelIdeal.nD KernelIdeal.τ KernelIdeal.sig) → Buf (Elt F) ℓ) (ρ : Dev KernelIdeal.nD → PrngReg)
    {r : PUnit × MemSt KernelIdeal.nD KernelIdeal.τ KernelIdeal.sig (Elt F)} (h : QC m ρ r) (c : Dev KernelIdeal.nD) :
    r.2.mem ((c.tc : Thread KernelIdeal.nD KernelIdeal.τ).loc KernelIdeal.main_arg0) = m ((c.tc : Thread KernelIdeal.nD KernelIdeal.τ).loc KernelIdeal.main_arg0)
    ∧ r.2.mem ((c.tc : Thread KernelIdeal.nD KernelIdeal.τ).loc KernelIdeal.main_arg1) = m ((c.tc : Thread KernelIdeal.nD KernelIdeal.τ).loc KernelIdeal.main_arg1)
    ∧ r.2.mem ((c.tc : Thread KernelIdeal.nD KernelIdeal.τ).loc KernelIdeal.main_arg2) = m ((c.tc : Thread KernelIdeal.nD KernelIdeal.τ).loc KernelIdeal.main_arg2)
    ∧ r.2.mem ((c.tc : Thread KernelIdeal.nD KernelIdeal.τ).loc KernelIdeal.main_arg3) = m ((c.tc : Thread KernelIdeal.nD KernelIdeal.τ).loc KernelIdeal.main_arg3) :=
  ⟨(h c 0).trans (finalA_in m ρ c 0 rfl), (h c 1).trans (finalA_in m ρ c 1 rfl),
    (h c 2).trans (finalA_in m ρ c 2 rfl), (h c 3).trans (finalA_in m ρ c 3 rfl)⟩

/-- The idealized program's frame. -/
theorem frame_ideal : Cert.quiescent_KernelIdeal := fun m ρ _ =>
  (θ_run Cert.KernelIdeal.defs _ _).mono (fun _ h => ⟨args_kept m ρ h.1, h.2⟩) (run_main (F := Ideal) m ρ)

/-! ## The program as printed has the same text -/

theorem body_same : @Cert.Kernel.cc0_body F _ Cert.Kernel.Gen.facts = @Cert.KernelIdeal.cc0_body F _ Cert.KernelIdeal.Gen.facts := rfl

theorem defs₀_same : Cert.Kernel.defs₀ (F := F) = Cert.KernelIdeal.defs₀ (F := F) := by
  have := body_same (F := F)
  funext p ℓ a
  rcases p with _ | _ | _
  · rcases ℓ with ⟨_ | _, h⟩
    · obtain ⟨t, s⟩ := a
      rfl
    · exact absurd h (Nat.not_lt.2 (Nat.le_add_left _ _))
  · rfl
  · rfl

theorem defs_same : Cert.Kernel.defs (F := F) = Cert.KernelIdeal.defs (F := F) := congrArg (Pipeline.defs (KernelIdeal.pcfgs (F := F))) defs₀_same
theorem main_same : Cert.Kernel.main (F := F) = Cert.KernelIdeal.main (F := F) := rfl

/-- A run of the idealized program's text is a run of the printed program's. -/
theorem run_same (s : MemSt KernelIdeal.nD KernelIdeal.τ KernelIdeal.sig (Elt F)) (Q : PUnit × MemSt KernelIdeal.nD KernelIdeal.τ KernelIdeal.sig (Elt F) → Prop)
    (h : θ_run (Cert.KernelIdeal.defs (F := F)) (onTc (τ := KernelIdeal.τ) (Cert.KernelIdeal.main (F := F))) s Q) :
    θ_run (Cert.Kernel.defs (F := F)) (onTc (τ := Cert.Kernel.τ) (Cert.Kernel.main (F := F))) s Q := by
  rw [← defs_same] at h
  exact h

/-- The printed program's frame. -/
theorem frame_kernel : Cert.quiescent_Kernel := fun m ρ _ =>
  run_same _ _ ((θ_run Cert.KernelIdeal.defs _ _).mono (fun _ h => ⟨args_kept m ρ h.1, h.2⟩) (run_main (F := Bits) m ρ))

end Cert.Exchange

end
-- ==== Proof.K.Value.lean ====
/-
# The value of the result

What each device sends, read at an index as a sum over one device's columns of `x` and rows of `w`; the blocks a device
adds up, as a sum over all eight devices; and the array after the run as the device's block of the whole product.
-/
module

public import proofs.«01_k».proof.Proof.K.Launch
public import proofs.«01_k».proof.Proof.Gen.ReferenceIdeal.Value
public import Idealize.ShloMosaic.Lib.MatmulPlain
public import Idealize.ShloMosaic.Lib.ValueIdx
public import Idealize.ShloMosaic.Lib.Layout
public import Idealize.ShloMosaic.Lib.Pipeline.Value

@[expose] public section

set_option backward.proofsInPublic true

noncomputable section

namespace Cert.Exchange

open Cert.KernelIdeal Cert.KernelIdeal.Gen

open Idealize.ShloMosaic
open Idealize.ShloMosaic.TcCoe
open Idealize.ShloMosaic.ValueIdx
open Idealize.ShloMosaic.Pipeline (Dat Cfg Window BodyObligation cellOf)
open scoped BigOperators

/-! ## The arrays the one grid point stages and writes back -/

section Windows

variable {F : FTy → Type} [FloatOps F]
variable (m : (ℓ : Loc nD τ sig) → Buf (Elt F) ℓ) (ρ : Dev nD → PrngReg)

theorem win0_index : ∀ t : Fin cfg0.N, win0_0.index t (0 : Fin 2) = 0 ∧ win0_0.index t (1 : Fin 2) = 0 :=
  (by decide +kernel : ∀ t : Fin grid0.N, _)
theorem win1_index : ∀ t : Fin cfg0.N, win0_1.index t (0 : Fin 2) = 0 ∧ win0_1.index t (1 : Fin 2) = 0 :=
  (by decide +kernel : ∀ t : Fin grid0.N, _)
theorem win2_index : ∀ t : Fin cfg0.N, win0_2.index t (0 : Fin 1) = 0 := (by decide +kernel : ∀ t : Fin grid0.N, _)
theorem win3_index : ∀ t : Fin cfg0.N, win0_3.index t (0 : Fin 1) = 0 := (by decide +kernel : ∀ t : Fin grid0.N, _)
theorem win4_index : ∀ t : Fin cfg0.N, win0_4.index t (0 : Fin 2) = 0 ∧ win0_4.index t (1 : Fin 2) = 0 :=
  (by decide +kernel : ∀ t : Fin grid0.N, _)

/-- The staged rows of `x` are the argument. -/
theorem xstg_eq (c : Dev nD) : xstg m ρ c = m ((c : Thread nD τ).loc main_arg0) := by
  funext (j : S4096x512.Idx)
  obtain ⟨e0, e1⟩ := win0_index (0 : Fin 1)
  show m ((c : Thread nD τ).loc main_arg0) ((win0_0.blk (0 : Fin 1)).view.emb j) = m ((c : Thread nD τ).loc main_arg0) j
  congr 1
  funext a; apply Fin.ext
  match a with
  | ⟨0, _⟩ => show win0_0.index (0 : Fin 1) (0 : Fin 2) * 4096 + 1 * (j 0).val = (j 0).val; omega
  | ⟨1, _⟩ => show win0_0.index (0 : Fin 1) (1 : Fin 2) * 512 + 1 * (j 1).val = (j 1).val; omega

/-- The staged columns of `w` are the argument. -/
theorem wstg_eq (c : Dev nD) : wstg m ρ c = m ((c : Thread nD τ).loc main_arg1) := by
  funext (j : S512x2048.Idx)
  obtain ⟨e0, e1⟩ := win1_index (0 : Fin 1)
  show m ((c : Thread nD τ).loc main_arg1) ((win0_1.blk (0 : Fin 1)).view.emb j) = m ((c : Thread nD τ).loc main_arg1) j
  congr 1
  funext a; apply Fin.ext
  match a with
  | ⟨0, _⟩ => show win0_1.index (0 : Fin 1) (0 : Fin 2) * 512 + 1 * (j 0).val = (j 0).val; omega
  | ⟨1, _⟩ => show win0_1.index (0 : Fin 1) (1 : Fin 2) * 2048 + 1 * (j 1).val = (j 1).val; omega

/-- The staged scale of `x` is the argument. -/
theorem sxstg_eq (c : Dev nD) : sxstg m ρ c = m ((c : Thread nD τ).loc main_arg2) := by
  funext (j : S1.Idx)
  have e0 := win2_index (0 : Fin 1)
  show m ((c : Thread nD τ).loc main_arg2) ((win0_2.blk (0 : Fin 1)).view.emb j) = m ((c : Thread nD τ).loc main_arg2) j
  congr 1
  funext a; apply Fin.ext
  match a with
  | ⟨0, _⟩ => show win0_2.index (0 : Fin 1) (0 : Fin 1) * 1 + 1 * (j 0).val = (j 0).val; omega

/-- The staged scale of `w` is the argument. -/
theorem swstg_eq (c : Dev nD) : swstg m ρ c = m ((c : Thread nD τ).loc main_arg3) := by
  funext (j : S1.Idx)
  have e0 := win3_index (0 : Fin 1)
  show m ((c : Thread nD τ).loc main_arg3) ((win0_3.blk (0 : Fin 1)).view.emb j) = m ((c : Thread nD τ).loc main_arg3) j
  congr 1
  funext a; apply Fin.ext
  match a with
  | ⟨0, _⟩ => show win0_3.index (0 : Fin 1) (0 : Fin 1) * 1 + 1 * (j 0).val = (j 0).val; omega

/-- The block written back covers the result. -/
theorem outEmb (t : Fin cfg0.N) (j : S512x2048.Idx) : ((cfg0.win 4).blk t).view.emb j = j := by
  obtain ⟨e0, e1⟩ := win4_index t
  funext a; apply Fin.ext
  match a with
  | ⟨0, _⟩ => show win0_4.index t (0 : Fin 2) * 512 + 1 * (j 0).val = (j 0).val; omega
  | ⟨1, _⟩ => show win0_4.index t (1 : Fin 2) * 2048 + 1 * (j 1).val = (j 1).val; omega

theorem outFlush : ∀ t : Fin cfg0.N, (cfg0.win 4).flush t = true := by
  intro t; rw [fin_N0 t]; decide

/-- The result after the run. -/
theorem finalA_out (c : Dev nD) : finalA m ρ c 4 = outAt m ρ c := by
  refine (dats m ρ 0 c).arrAt_eq_of_cover 4 (outAt m ρ c) (fun t _ => ?_) fun i => ⟨⟨0, by decide⟩, outFlush _, ?_⟩
  · show (cfg0.win 4).cut (grid0.coords t) (outAt m ρ c) = _
    funext (j : S512x2048.Idx)
    show outAt m ρ c j = outAt m ρ c (((cfg0.win 4).blk t).view.emb j)
    rw [outEmb]
  · have h := ((cfg0.win 4).blk (⟨0, by decide⟩ : Fin cfg0.N)).view.emb_mem_set i
    rwa [outEmb] at h

end Windows

/-! ## Sums -/

/-- A sum over `4096` positions, block by block. -/
theorem sum_blocks {M : Type*} [AddCommMonoid M] (f : Fin 4096 → M) :
    ∑ k, f k = ∑ d : Dev nD, ∑ j : Fin 512, f ⟨512 * d.val + j.val, by have := d.isLt; have := j.isLt; have : d.val < 8 := d.isLt; omega⟩ := by
  rw [← Fintype.sum_prod_type' (f := fun (d : Dev nD) (j : Fin 512) => f ⟨512 * d.val + j.val, by have : d.val < 8 := d.isLt; have := j.isLt; omega⟩)]
  refine (Fintype.sum_equiv (finProdFinEquiv (m := 8) (n := 512)) _ _ fun p => ?_).symm
  refine congrArg f (Fin.ext ?_)
  show 512 * p.1.val + p.2.val = p.2.val + 512 * p.1.val
  omega

/-- The devices whose products reach device `c`, in the order the blocks are added. -/
def sources (t : Bool) (c : Dev nD) : List (Dev nD) :=
  [peer t 3 c, peer t 1 (peer t 5 c), peer t 5 c, peer t 2 (peer t 6 c), peer t 0 (peer t 4 (peer t 6 c)), peer t 4 (peer t 6 c), peer t 6 c, c]

/-- They are all the devices, each once. -/
theorem sources_perm : ∀ (t : Bool) (c : Dev nD), (sources t c).Perm (List.finRange nD) := by decide +kernel

/-- The order of the additions does not matter. -/
theorem sum_sources {M : Type*} [AddCommMonoid M] (t : Bool) (c : Dev nD) (g : Dev nD → M) :
    g (peer t 3 c) + (g (peer t 1 (peer t 5 c)) + g (peer t 5 c))
      + (g (peer t 2 (peer t 6 c)) + (g (peer t 0 (peer t 4 (peer t 6 c))) + g (peer t 4 (peer t 6 c))) + g (peer t 6 c)) + g c = ∑ d, g d := by
  have h := ((sources_perm t c).map g).sum_eq
  rw [← List.ofFn_eq_map, List.sum_ofFn] at h
  rw [← h]
  simp only [sources, List.map_cons, List.map_nil, List.sum_cons, List.sum_nil]
  abel

/-- Every product a device adds is of the rows the receiving device owns. -/
theorem sources_rows : ∀ (t : Bool) (c : Dev nD),
    dx (peer t 3 c) (rowsOf t 3) = c
    ∧ dx (peer t 1 (peer t 5 c)) (rowsOf t 1) = c ∧ dx (peer t 5 c) (rowsOf t 5) = c
    ∧ dx (peer t 2 (peer t 6 c)) (rowsOf t 2) = c ∧ dx (peer t 0 (peer t 4 (peer t 6 c))) (rowsOf t 0) = c
    ∧ dx (peer t 4 (peer t 6 c)) (rowsOf t 4) = c ∧ dx (peer t 6 c) (rowsOf t 6) = c ∧ dx c 0 = c := by decide +kernel

/-! ## What is sent, at an index -/

section AtIdeal

variable (m : (ℓ : Loc nD τ sig) → Buf (Elt Ideal) ℓ) (ρ : Dev nD → PrngReg)

/-- Widening what was narrowed gives it back. -/
theorem widen_narrow (v : FVec Ideal S512x256 .f32) : widen (narrow v) = v := by
  show shapeCast S512x256 (shapeCast S1x1x512x256 v shapeCasts_S512x256_S1x1x512x256) shapeCasts_S1x1x512x256_S512x256 = v
  exact shapeCast_shapeCast v _ _

/-- The arguments of device `d`. -/
def xOf (d : Dev nD) : FVec Ideal S4096x512 .fp8e4m3 := m ((d : Thread nD τ).loc main_arg0)
def wOf (d : Dev nD) : FVec Ideal S512x2048 .fp8e4m3 := m ((d : Thread nD τ).loc main_arg1)

theorem xbv_eq (d : Dev nD) : (xbv m ρ d : S4096x512.Idx → EReal) = xOf m d := by
  show shapeCast S4096x512 (shapeCast S4096x512 (xstg m ρ d) _) _ = _
  exact (shapeCast_self (s := S4096x512) (α := EReal) _ _).trans ((shapeCast_self (s := S4096x512) (α := EReal) _ _).trans (xstg_eq m ρ d))

theorem wbv_eq (d : Dev nD) : (wbv m ρ d : S512x2048.Idx → EReal) = wOf m d := by
  show shapeCast S512x2048 (shapeCast S512x2048 (wstg m ρ d) _) _ = _
  exact (shapeCast_self (s := S512x2048) (α := EReal) _ _).trans ((shapeCast_self (s := S512x2048) (α := EReal) _ _).trans (wstg_eq m ρ d))

/-- Device `d`'s share of the element in row `i` of device `c`'s rows and column `j`. -/
def share (c d : Dev nD) (i : Fin 512) (j : Fin 2048) : EReal :=
  ∑ k : Fin 512, xOf m d (ix2 ⟨512 * c.val + i.val, by have : c.val < 8 := c.isLt; have := i.isLt; omega⟩ k) * wOf m d (ix2 k j)

/-- The column of the result that column `j` of quarter `s` of stream `t` is. -/
def colOf (t : Bool) (s : Fin 4) (j : Fin 256) : Fin 2048 :=
  ⟨pick 0 1024 t + 256 * s.val + j.val, by have := s.isLt; have := j.isLt; cases t <;> simp only [pick] <;> omega⟩

/-- A quarter of a product, at an index. -/
theorem quarter_apply (d : Dev nD) (t : Bool) (e : Fin 8) (s : Fin 4) (i : Fin 512) (j : Fin 256) :
    quarter s (prodAt m ρ d t e) (ix2 i j) = share m (dx d e) d i (colOf t s j) := by
  have hj : 256 * s.val + j.val < 1024 := by have := s.isLt; have := j.isLt; omega
  refine (extractStridedSlice_apply (s := S512x1024) (t := S512x256) ![0, 256 * s.val] _ (quarter_slices s) (ix2 i j) (ix2 i ⟨256 * s.val + j.val, hj⟩) ?_).trans ?_
  · intro a
    match a with
    | ⟨0, _⟩ => show i.val = 0 + i.val; omega
    | ⟨1, _⟩ => rfl
  · refine (Ideal.matmul_plain_apply (M := 512) (K := 512) (N := 1024) none _ _ _ i _).trans ?_
    refine (congrArg (· + _) Ideal.ofBits_zero_f32).trans ((zero_add _).trans ?_)
    refine Finset.sum_congr rfl fun k _ => congrArg₂ (· * ·) ?_ ?_
    · show xbv m ρ d _ = _
      refine (congrFun (xbv_eq m ρ d) _).trans (congrArg (xOf m d) ?_)
      funext a; apply Fin.ext
      match a with
      | ⟨0, _⟩ => show offP d e 0 + 1 * i.val = 512 * (dx d e).val + i.val; rw [offP_eq]; show 512 * (dx d e).val + 1 * i.val = _; omega
      | ⟨1, _⟩ => show offP d e 1 + 1 * k.val = k.val; rw [offP_eq]; show 0 + 1 * k.val = _; omega
    · show wbv m ρ d _ = _
      refine (congrFun (wbv_eq m ρ d) _).trans (congrArg (wOf m d) ?_)
      funext a; apply Fin.ext
      match a with
      | ⟨0, _⟩ => show 0 + 1 * k.val = k.val; omega
      | ⟨1, _⟩ => show pick 0 1024 t + 1 * (256 * s.val + j.val) = pick 0 1024 t + 256 * s.val + j.val; omega

theorem widen_sentA (d : Dev nD) (t : Bool) (k : Fin 7) (s : Fin 4) (i : Fin 512) (j : Fin 256) :
    widen (sentA m ρ d t k s) (ix2 i j) = share m (dx d (rowsOf t k)) d i (colOf t s j) := by
  unfold sentA payA
  rw [widen_narrow, quarter_apply]

theorem widen_sentB (d : Dev nD) (t : Bool) (j' k : Fin 7) (s : Fin 4) (i : Fin 512) (j : Fin 256) :
    widen (sentB m ρ d t j' k s) (ix2 i j)
      = share m (dx (peer t j' d) (rowsOf t j')) (peer t j' d) i (colOf t s j) + share m (dx d (rowsOf t k)) d i (colOf t s j) := by
  unfold sentB payB
  rw [widen_narrow, addf_apply, widen_sentA, quarter_apply]

theorem widen_sentC (d : Dev nD) (t : Bool) (s : Fin 4) (i : Fin 512) (j : Fin 256) :
    widen (sentC m ρ d t s) (ix2 i j)
      = share m (dx (peer t 2 d) (rowsOf t 2)) (peer t 2 d) i (colOf t s j)
        + (share m (dx (peer t 0 (peer t 4 d)) (rowsOf t 0)) (peer t 0 (peer t 4 d)) i (colOf t s j)
          + share m (dx (peer t 4 d) (rowsOf t 4)) (peer t 4 d) i (colOf t s j))
        + share m (dx d (rowsOf t 6)) d i (colOf t s j) := by
  unfold sentC payC
  rw [widen_narrow, addf_apply, addf_apply, widen_sentA, widen_sentB, quarter_apply]

/-- The scales' product. -/
def scale (c : Dev nD) : EReal :=
  have sx : S1.Idx → EReal := m ((c : Thread nD τ).loc main_arg2)
  have sw : S1.Idx → EReal := m ((c : Thread nD τ).loc main_arg3)
  sx (ix1 0) * sw (ix1 0)

theorem one_idx (i j : S1.Idx) : i = j := by
  funext a
  match a with
  | ⟨0, _⟩ => exact Subsingleton.elim (α := Fin 1) _ _

theorem zAt_eq (c : Dev nD) : (zAt m ρ c : EReal) = scale m c := by
  unfold zAt scale
  refine congrArg₂ (fun a b : EReal => a * b) ?_ ?_
  · show sxstg m ρ c _ = _
    rw [sxstg_eq]
    exact congrArg (m ((c : Thread nD τ).loc main_arg2)) (one_idx _ _)
  · show swstg m ρ c _ = _
    rw [swstg_eq]
    exact congrArg (m ((c : Thread nD τ).loc main_arg3)) (one_idx _ _)

/-- A quarter of the result, at an index: every device's share, scaled. -/
theorem outQ_apply (c : Dev nD) (t : Bool) (s : Fin 4) (i : Fin 512) (j : Fin 256) :
    outQ m ρ c t s (ix2 i j) = (∑ d, share m c d i (colOf t s j)) * scale m c := by
  unfold outQ payD got
  have e : sent m ρ (peer t 3 c) t 3 s = sentA m ρ (peer t 3 c) t 3 s := sent_A m ρ _ t 3 s (by decide)
  rw [e, sent_5, sent_6, mulf_apply, addf_apply, addf_apply, addf_apply, widen_sentA, widen_sentB, widen_sentC, quarter_apply]
  obtain ⟨h3, h1, h5, h2, h0, h4, h6, h⟩ := sources_rows t c
  rw [h3, h1, h5, h2, h0, h4, h6, h, sum_sources t c fun d => share m c d i (colOf t s j)]
  exact congrArg (_ * ·) (zAt_eq m ρ c)

/-- The result, at an index. -/
theorem outAt_apply (c : Dev nD) (i : Fin 512) (j : Fin 2048) :
    (outAt m ρ c : S512x2048.Idx → EReal) (ix2 i j) = (∑ d, share m c d i j) * scale m c := by
  have hj := j.isLt
  have hq : inQuarter (ix2 i j) = ix2 i ⟨j.val % 256, Nat.mod_lt _ (by decide)⟩ := by
    funext a
    match a with
    | ⟨0, _⟩ => rfl
    | ⟨1, _⟩ => rfl
  have hcol : colOf (decide (1024 ≤ j.val)) ⟨j.val / 256 % 4, Nat.mod_lt _ (by decide)⟩ ⟨j.val % 256, Nat.mod_lt _ (by decide)⟩ = j := by
    apply Fin.ext
    show pick 0 1024 (decide (1024 ≤ j.val)) + 256 * (j.val / 256 % 4) + j.val % 256 = j.val
    by_cases h : 1024 ≤ j.val
    · rw [decide_eq_true h]; show 1024 + 256 * (j.val / 256 % 4) + j.val % 256 = j.val; omega
    · rw [decide_eq_false h]; show 0 + 256 * (j.val / 256 % 4) + j.val % 256 = j.val; omega
  show outQ m ρ c (decide (1024 ≤ j.val)) ⟨j.val / 256 % 4, _⟩ (inQuarter (ix2 i j)) = _
  rw [hq, outQ_apply, hcol]

/-! ## The reference -/

/-- The reference at an index. -/
theorem reference_apply (a0 : Vec Ideal Cert.ReferenceIdeal.S4096x4096 .fp8e4m3) (a1 : Vec Ideal Cert.ReferenceIdeal.S4096x2048 .fp8e4m3)
    (a2 a3 : Vec Ideal Cert.ReferenceIdeal.S1 .f32) (i : Fin 4096) (j : Fin 2048) :
    (Cert.ReferenceIdeal.Value.G4 a0 a1 a2 a3 : Cert.ReferenceIdeal.S4096x2048.Idx → EReal) (ix2 i j)
      = (∑ k : Fin 4096, (a0 : _ → EReal) (ix2 i k) * (a1 : _ → EReal) (ix2 k j)) * ((a2 : _ → EReal) (ix1 0) * (a3 : _ → EReal) (ix1 0)) := by
  refine congrArg₂ (fun a b : EReal => a * b) ?_ ?_
  · refine (Ideal.matmul_plain_apply (M := 4096) (K := 4096) (N := 2048) none _ _ _ i j).trans ?_
    exact (congrArg (· + _) Ideal.ofBits_zero_f32).trans (zero_add _)
  · refine congrArg₂ (fun a b : EReal => a * b) ?_ ?_
    · exact congrArg a2 (one_idx _ _)
    · exact congrArg a3 (one_idx _ _)

/-- Every device ends with its block of the reference's result. -/
theorem outAt_block (a0 : Vec Ideal Cert.ReferenceIdeal.S4096x4096 .fp8e4m3) (a1 : Vec Ideal Cert.ReferenceIdeal.S4096x2048 .fp8e4m3)
    (a2 a3 : Vec Ideal Cert.ReferenceIdeal.S1 .f32)
    (hx : ∀ c : Dev nD, m ((c : Thread nD τ).loc main_arg0) = Layout.block ⟨2, ![4096, 512]⟩ ⟨2, ![4096, 4096]⟩ 1 8 c a0)
    (hw : ∀ c : Dev nD, m ((c : Thread nD τ).loc main_arg1) = Layout.block ⟨2, ![512, 2048]⟩ ⟨2, ![4096, 2048]⟩ 0 8 c a1)
    (hsx : ∀ c : Dev nD, m ((c : Thread nD τ).loc main_arg2) = a2)
    (hsw : ∀ c : Dev nD, m ((c : Thread nD τ).loc main_arg3) = a3) (c : Dev nD) :
    outAt m ρ c = Layout.block ⟨2, ![512, 2048]⟩ ⟨2, ![4096, 2048]⟩ 0 8 c (Cert.ReferenceIdeal.Value.G4 a0 a1 a2 a3) := by
  have hc : c.val < 8 := c.isLt
  funext (i : S512x2048.Idx)
  obtain ⟨r, j, rfl⟩ : ∃ (r : Fin 512) (j : Fin 2048), i = ix2 r j := ⟨i 0, i 1, eq_ix2 i⟩
  have hr := r.isLt
  refine (outAt_apply m ρ c r j).trans ?_
  rw [Layout.block_apply]
  have hi : (Layout.Tiles.idx (by decide : Layout.Tiles ⟨2, ![512, 2048]⟩ ⟨2, ![4096, 2048]⟩ 0 8) c (ix2 r j))
      = ix2 ⟨512 * c.val + r.val, by omega⟩ j := by
    funext a; apply Fin.ext
    match a with
    | ⟨0, _⟩ => show c.val * 512 + r.val = 512 * c.val + r.val; omega
    | ⟨1, _⟩ => rfl
  refine Eq.trans ?_ ((congrArg (Cert.ReferenceIdeal.Value.G4 a0 a1 a2 a3) hi).trans (reference_apply a0 a1 a2 a3 _ j)).symm
  refine congrArg₂ (fun a b : EReal => a * b) ?_ ?_
  · rw [sum_blocks]
    refine Finset.sum_congr rfl fun d _ => Finset.sum_congr rfl fun k _ => congrArg₂ (fun a b : EReal => a * b) ?_ ?_
    · refine (congrFun (hx d) _).trans ((Layout.block_apply ..).trans (congrArg a0 ?_))
      funext a; apply Fin.ext
      match a with
      | ⟨0, _⟩ => rfl
      | ⟨1, _⟩ => show d.val * 512 + k.val = 512 * d.val + k.val; omega
    · refine (congrFun (hw d) _).trans ((Layout.block_apply ..).trans (congrArg a1 ?_))
      funext a; apply Fin.ext
      match a with
      | ⟨0, _⟩ => show d.val * 512 + k.val = 512 * d.val + k.val; omega
      | ⟨1, _⟩ => rfl
  · unfold scale
    rw [hsx c, hsw c]

end AtIdeal

end Cert.Exchange

end
-- ==== Proof.lean ====
/-
# The claims
-/
module

public import proofs.«01_k».proof.Defs
public import proofs.«01_k».proof.Proof.Gen.ReferenceIdeal
public import proofs.«01_k».proof.Proof.Gen.ReferenceIdeal.Frame
public import proofs.«01_k».proof.Proof.Gen.ReferenceIdeal.Value
public import proofs.«01_k».proof.Proof.K.Frames
public import proofs.«01_k».proof.Proof.K.Value
public import Idealize.ShloMosaic.Adequacy
public import Idealize.ShloMosaic.Init

@[expose] public section

noncomputable section

namespace Cert.Proof

open Idealize.ShloMosaic Idealize.SL.Sem

/-- The kernel's devices end with the blocks of the reference's result. -/
theorem algebraic : Cert.algebraic_KernelIdeal_ReferenceIdeal (hKernelIdeal := Cert.KernelIdeal.Gen.facts) (hReferenceIdeal := Cert.ReferenceIdeal.Gen.facts) :=
  fun m g m' g' _ hagree => ⟨_,
    (θ_run Cert.KernelIdeal.defs _ _).mono (fun r h c =>
      ⟨(h.1 c 4).trans ((Cert.Exchange.finalA_out m g c).trans (Cert.Exchange.outAt_block m g _ _ _ _
          (fun c => (hagree c).1) (fun c => (hagree c).2.1) (fun c => (hagree c).2.2.1) (fun c => (hagree c).2.2.2) c)),
        Cert.Exchange.args_kept m g h.1 c⟩) (Cert.Exchange.run_main m g),
    (θ_run Cert.ReferenceIdeal.defs _ _).mono (fun r h => h 0) (Cert.ReferenceIdeal.Value.run m' g')⟩

theorem claim : Cert.Claim := ⟨Cert.Kernel.Gen.facts, Cert.KernelIdeal.Gen.facts, Cert.ReferenceIdeal.Gen.facts,
  Cert.Exchange.frame_kernel, Cert.Exchange.frame_ideal, fun m ρ _ => Cert.ReferenceIdeal.Gen.frame m ρ, trivial, algebraic⟩

end Cert.Proof

end
